-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S8x64x32x32 : Shape := ⟨4, ![8, 64, 32, 32]⟩
abbrev S8192x64 : Shape := ⟨2, ![8192, 64]⟩
abbrev S_ : Shape := ⟨0, ![]⟩

class Facts : Prop where
  shapeCasts_S8x64x32x32_S8192x64 : S8x64x32x32.ShapeCasts S8192x64
  bcast_S_S8192x64 : S_.BroadcastsInDim S8192x64 (![] : Fin 0 → Fin S8192x64.rank)

variable [Facts]

def fn {F : FTy → Type} [FloatOps F] (main_arg0 : FVec F S8x64x32x32 .f32) (main_arg1 : FVec F S8192x64 .f32) : IVec S8192x64 1 :=
  let main_v0 : FVec F S8192x64 .f32 := shapeCast S8192x64 main_arg0 shapeCasts_S8x64x32x32_S8192x64
  let main_v1 : FVec F S8192x64 .f32 := Host.absf main_v0
  let main_cst : FVec F S_ .f32 := constant S_ .f32 0x7F800000#32
  let main_v2 : FVec F S8192x64 .f32 := broadcastInDim S8192x64 ![] bcast_S_S8192x64 main_cst
  let main_v3 : IVec S8192x64 1 := cmpf .olt main_v1 main_v2
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_v7 : IVec S8192x64 1 := andi main_v3 main_v6
  main_v7
-- ==== Kernel.lean ====
abbrev S8x64x32x32 : Shape := ⟨4, ![8, 64, 32, 32]⟩
abbrev S8192x64 : Shape := ⟨2, ![8192, 64]⟩
abbrev S8x32x32x64 : Shape := ⟨4, ![8, 32, 32, 64]⟩
abbrev S8192x128 : Shape := ⟨2, ![8192, 128]⟩
abbrev S1x1 : Shape := ⟨2, ![1, 1]⟩
abbrev S_ : Shape := ⟨0, ![]⟩
abbrev S8192 : Shape := ⟨1, ![8192]⟩
abbrev S8192x1 : Shape := ⟨2, ![8192, 1]⟩
abbrev S8192x62 : Shape := ⟨2, ![8192, 62]⟩
abbrev S4096x64 : Shape := ⟨2, ![4096, 64]⟩
abbrev S4096x1 : Shape := ⟨2, ![4096, 1]⟩
abbrev S4096x62 : Shape := ⟨2, ![4096, 62]⟩
abbrev S4096x128 : Shape := ⟨2, ![4096, 128]⟩
abbrev S512x128 : Shape := ⟨2, ![512, 128]⟩
abbrev S4096x512 : Shape := ⟨2, ![4096, 512]⟩
abbrev S4096 : Shape := ⟨1, ![4096]⟩
abbrev S1x4096x64 : Shape := ⟨3, ![1, 4096, 64]⟩
abbrev S1 : Shape := ⟨1, ![1]⟩
abbrev S1x1x1 : Shape := ⟨3, ![1, 1, 1]⟩
abbrev S1x4096x1 : Shape := ⟨3, ![1, 4096, 1]⟩

abbrev nBuf : Space → Nat
  | .hbm => 14
  | .vmem => 6
  | .smem => 0
  | _ => 0

abbrev bufTy : (tb : Table) → Fin (tcTables nBuf tb) → BufTy
  | .hbm, ⟨0, _⟩ => ⟨S8x64x32x32, .f32⟩
  | .hbm, ⟨1, _⟩ => ⟨S8192x64, .f32⟩
  | .hbm, ⟨2, _⟩ => ⟨S8x32x32x64, .f32⟩
  | .hbm, ⟨3, _⟩ => ⟨S8192x64, .f32⟩
  | .hbm, ⟨4, _⟩ => ⟨S8192x128, .bf16⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S8192x64, .f32⟩
  | .local _ .vmem, ⟨1, _⟩ => ⟨S8192x128, .bf16⟩
  | .local _ .vmem, ⟨2, _⟩ => ⟨S4096x64, .f32⟩
  | .local _ .vmem, ⟨3, _⟩ => ⟨S4096x64, .f32⟩
  | .local _ .vmem, ⟨4, _⟩ => ⟨S8192x128, .bf16⟩
  | .local _ .vmem, ⟨5, _⟩ => ⟨S1x1, .f32⟩
  | _, _ => ⟨S8x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_cst : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem2_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![2], ![false]⟩

def k1_cond1 (i : grid1.Coords) : BitVec 1 :=
  let arg0 : BitVec 32 := BitVec.ofNat 32 (i 0).val
  let c0_i32 : BitVec 32 := 0#32
  let v194 : BitVec 1 := Scalar.cmpi .eq arg0 c0_i32
  let v195 : BitVec 32 := Scalar.extui v194
  let c0_i32_38 : BitVec 32 := 0#32
  let v196 : BitVec 1 := Scalar.cmpi .ne v195 c0_i32_38
  v196

def k1_cond2 (i : grid1.Coords) : BitVec 1 :=
  let arg0 : BitVec 32 := BitVec.ofNat 32 (i 0).val
  let c0_i32_39 : BitVec 32 := 0#32
  let v197 : BitVec 1 := Scalar.cmpi .sgt arg0 c0_i32_39
  let v198 : BitVec 32 := Scalar.extui v197
  let c0_i32_40 : BitVec 32 := 0#32
  let v199 : BitVec 1 := Scalar.cmpi .ne v198 c0_i32_40
  v199

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== ReferenceIdeal.lean ====
abbrev S8x64x32x32 : Shape := ⟨4, ![8, 64, 32, 32]⟩
abbrev S8192x64 : Shape := ⟨2, ![8192, 64]⟩
abbrev S8x32x32x64 : Shape := ⟨4, ![8, 32, 32, 64]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S1 : Shape := ⟨1, ![1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S8x64x32x32, .f32⟩
  | .hbm, ⟨1, _⟩ => ⟨S8192x64, .f32⟩
  | .hbm, ⟨2, _⟩ => ⟨S8x32x32x64, .f32⟩
  | .hbm, ⟨3, _⟩ => ⟨S8192x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x64, .f32⟩
  | .hbm, ⟨17, _⟩ => ⟨S8192x64, .f32⟩
  | .hbm, ⟨18, _⟩ => ⟨S64x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .i32⟩
  | .hbm, ⟨26, _⟩ => ⟨S_, .f32⟩
  | .hbm, ⟨27, _⟩ => ⟨S_, .i32⟩
  | .hbm, ⟨28, _⟩ => ⟨S8192, .f32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S8192x1, .i32⟩
  | .hbm, ⟨38, _⟩ => ⟨S1, .i32⟩
  | .hbm, ⟨39, _⟩ => ⟨S_, .i32⟩
  | .hbm, ⟨40, _⟩ => ⟨S8192x1, .i32⟩
  | .hbm, ⟨41, _⟩ => ⟨S8192x1, .i1⟩
  | .hbm, ⟨42, _⟩ => ⟨S1x1, .i32⟩
  | .hbm, ⟨43, _⟩ => ⟨S8192x1, .i32⟩
  | .hbm, ⟨44, _⟩ => ⟨S8192x1, .i1⟩
  | .hbm, ⟨45, _⟩ => ⟨S8192x1, .i1⟩
  | .hbm, ⟨46, _⟩ => ⟨S_, .i1⟩
  | .hbm, ⟨47, _⟩ => ⟨S8192, .i1⟩
  | .hbm, ⟨48, _⟩ => ⟨S8192x64, .f32⟩
  | .hbm, ⟨49, _⟩ => ⟨S8192x64, .i1⟩
  | .hbm, ⟨50, _⟩ => ⟨S_, .f32⟩
  | .hbm, ⟨51, _⟩ => ⟨S8192x64, .f32⟩
  | .hbm, ⟨52, _⟩ => ⟨S8192x64, .f32⟩
  | .hbm, ⟨53, _⟩ => ⟨S8x32x32x64, .f32⟩
  | .hbm, ⟨54, _⟩ => ⟨S8x32x32x64, .f32⟩
  | .hbm, ⟨55, _⟩ => ⟨S8x32x32x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8x32x32x64, .f32⟩
  | .hbm, ⟨61, _⟩ => ⟨S8x32x32x64, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S8x64x32x32, .f32⟩
  | _, _ => ⟨S8x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_v0 : Ref sig .tc := ⟨.hbm, 25, rfl⟩
abbrev main_call0_cst : Ref sig .tc := ⟨.hbm, 26, rfl⟩
abbrev main_call0_c : Ref sig .tc := ⟨.hbm, 27, rfl⟩
abbrev main_call0_v1_0 : Ref sig .tc := ⟨.hbm, 28, rfl⟩
abbrev main_v19 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_5 : Ref sig .tc := ⟨.hbm, 62, rfl⟩
abbrev main_v28 : Ref sig .tc := ⟨.hbm, 63, rfl⟩
abbrev main_cst_6 : Ref sig .tc := ⟨.hbm, 64, rfl⟩
abbrev main_v29 : Ref sig .tc := ⟨.hbm, 65, rfl⟩
abbrev main_cst_7 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩

abbrev nD : Nat := 1
abbrev τ : Topo := Topo.v7x

variable {F : FTy → Type} [FloatOps F]
-- ==== Proof.Vq.Body.lean ====
/- The two kernel bodies run by the executor: what each leaves in its result's staging buffer. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.FrameBody
public import Idealize.ShloMosaic.Lib.Tactic
public import Idealize.ShloMosaic.Lib.Tactic.Stretches
public import Idealize.ShloMosaic.Lib.VecWindow

@[expose] public section

noncomputable section

namespace Cert.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type. -/
abbrev Bf (c : Dev nD) {sp : Space} {S : Shape} {e : EltTy} (M : Memref sig .tc sp S e) : Type :=
  Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f

/-- The codebook kernel: from its two buffers held whole it runs to its return, the codebook's buffer as it was and the
    result's reading the augmented codebook. -/
theorem prep_run (c : Dev nD) (i : grid0.Coords) (M0 : Memref sig .tc .vmem S8192x64 .f32) (h0 : M0.IsWhole)
    (M1 : Memref sig .tc .vmem S8192x128 .bf16) (h1 : M1.IsWhole) (X : S8192x64.Idx → Elt F .f32) (f1 : Bf (F := F) c M1) (E : Set ℕ) (Q : PUnit → sProp 𝕄) :
    iprop(pt c M0 (h0.unread X) ∗ pt c M1 f1 ∗ (iprop(pt c M0 (h0.unread X) ∗ pt c M1 (h1.unread (k0_pay1 X))) -∗ Q ⟨⟩))
      ⊢ wp frame (wpE (defs₀ (F := F)) Variants.none c none) E (cc0__prep_body i M0 h0 M1 h1) Q := by
  rw [cc0__prep_body_eq_skeleton]; unfold cc0__prep_body_skel
  iintro ⟨H0, H1, Hk⟩
  sl_exec!
  sl_step
  rw [h1.eq_unread (X := k0_pay1 X) (f := M1.view.writes (Elt F) M1.view.junk (prep_run.sl.H1_1 M0 h0 X))
    (by sl_open_run; rw [View.read_writes_full, View.readAt_full, h0.read_unread])]
  iapply Hk
  isplitl [H0]; · iexact H0
  iexact H1

/-- Rows `o … o + 511` of the augmented codebook, as the body loads them. -/
abbrev rows (C : S8192x128.Idx → Elt F .bf16) (o : ℕ)
    (h : ∀ a, (![o, 0] : Fin 2 → ℕ) a + S512x128.size a ≤ S8192x128.size a) : Vec F S512x128 .bf16 :=
  View.ld C (Rect.unit (s := S8192x128) ![o, 0] S512x128.size h)

/-- The row minima the distance kernel computes for a tile of inputs `X` over the augmented codebook `C`. -/
def rowMins (X : S4096x64.Idx → Elt F .f32) (C : S8192x128.Idx → Elt F .bf16) : FVec F S4096x1 .f32 :=
  k1_pay24 (k1_pay4 X)
    (k1_pay5 X (rows C 0 inb_S8192x128_S512x128_0_0))
    (k1_pay6 X (rows C 512 inb_S8192x128_S512x128_512_0))
    (k1_pay7 X (rows C 1024 inb_S8192x128_S512x128_1024_0))
    (k1_pay13 (k1_pay9 X (rows C 1536 inb_S8192x128_S512x128_1536_0)) (k1_pay10 X (rows C 1536 inb_S8192x128_S512x128_1536_0))
      (k1_pay11 X (rows C 1536 inb_S8192x128_S512x128_1536_0)) (k1_pay12 X (rows C 1536 inb_S8192x128_S512x128_1536_0)))
    (k1_pay14 (k1_pay4 X) (rows C 2048 inb_S8192x128_S512x128_2048_0))
    (k1_pay15 (k1_pay4 X) (rows C 2560 inb_S8192x128_S512x128_2560_0))
    (k1_pay16 (k1_pay4 X) (rows C 3072 inb_S8192x128_S512x128_3072_0))
    (k1_pay17 (k1_pay4 X) (rows C 3584 inb_S8192x128_S512x128_3584_0))
    (k1_pay19 (k1_pay4 X) (k1_pay18 (rows C 4096 inb_S8192x128_S512x128_4096_0)) (constant S4096x512 FTy.f32 0#32))
    (k1_pay20 (k1_pay4 X) (rows C 4608 inb_S8192x128_S512x128_4608_0))
    (k1_pay21 (k1_pay4 X) (rows C 5120 inb_S8192x128_S512x128_5120_0))
    (k1_pay22 (k1_pay4 X) (rows C 5632 inb_S8192x128_S512x128_5632_0))
    (k1_pay23 (k1_pay4 X) (rows C 6144 inb_S8192x128_S512x128_6144_0))
    (rows C 6656 inb_S8192x128_S512x128_6656_0)
    (rows C 7168 inb_S8192x128_S512x128_7168_0)
    (rows C 7680 inb_S8192x128_S512x128_7680_0)

/-- A tile's contribution to the total, written at the first point. -/
def tileFirst (X : S4096x64.Idx → Elt F .f32) (C : S8192x128.Idx → Elt F .bf16) : FVec F S1x1 .f32 :=
  k1_pay1 (rowMins X C) (k1_pay25 (k1_pay3 X))

/-- A tile's contribution added to the running total `T`, written at the later point. -/
def tileNext (X : S4096x64.Idx → Elt F .f32) (C : S8192x128.Idx → Elt F .bf16) (T : S1x1.Idx → Elt F .f32) : FVec F S1x1 .f32 :=
  k1_pay2 (rowMins X C) (k1_pay25 (k1_pay3 X)) T

/-- The distance kernel at a point where it initialises the total: from the inputs held whole it leaves them as they
    were, and the total's buffer at the tile's contribution. -/
theorem dist_run0 (c : Dev nD) (i : grid1.Coords) (hc1 : k1_cond1 i = 1#1) (hc2 : ¬ k1_cond2 i = 1#1)
    (M0 : Memref sig .tc .vmem S4096x64 .f32) (h0 : M0.IsWhole)
    (M1 : Memref sig .tc .vmem S8192x128 .bf16) (h1 : M1.IsWhole) (M2 : Memref sig .tc .vmem S1x1 .f32) (h2 : M2.IsWhole)
    (X : S4096x64.Idx → Elt F .f32) (C : S8192x128.Idx → Elt F .bf16) (f2 : Bf (F := F) c M2) (E : Set ℕ) (Q : PUnit → sProp 𝕄) :
    iprop(pt c M0 (h0.unread X) ∗ pt c M1 (h1.unread C) ∗ pt c M2 f2
        ∗ (iprop(pt c M0 (h0.unread X) ∗ pt c M1 (h1.unread C) ∗ pt c M2 (h2.unread (tileFirst X C))) -∗ Q ⟨⟩))
      ⊢ wp frame (wpE (defs₀ (F := F)) Variants.none c none) E (cc1__dist_body i M0 h0 M1 h1 M2 h2) Q := by
  rw [cc1__dist_body_eq_skeleton]; unfold cc1__dist_body_skel
  rw [k1_part1_eq_skeleton, k1_part2_eq_skeleton, k1_part3_eq_skeleton, k1_part4_eq_skeleton]
  iintro ⟨H0, H1, H2, Hk⟩
  sl_exec!
  sl_step
  rw [h2.eq_unread (X := tileFirst X C) (f := M2.view.writes (Elt F) M2.view.junk (dist_run0.sl.H2_1 M0 h0 M1 h1 X C))
    (by sl_open_run
        rw [View.read_writes_full, View.readAt_full, h0.read_unread]
        simp only [View.readAt_eq_ld, h1.read_unread]
        rfl)]
  iapply Hk
  isplitl [H0]; · iexact H0
  isplitl [H1]; · iexact H1
  iexact H2

/-- The distance kernel at a point where it adds to the total: from the inputs and the total `T` held whole it leaves the
    inputs as they were, and the total's buffer at `T` plus the tile's contribution. -/
theorem dist_run1 (c : Dev nD) (i : grid1.Coords) (hc1 : ¬ k1_cond1 i = 1#1) (hc2 : k1_cond2 i = 1#1)
    (M0 : Memref sig .tc .vmem S4096x64 .f32) (h0 : M0.IsWhole)
    (M1 : Memref sig .tc .vmem S8192x128 .bf16) (h1 : M1.IsWhole) (M2 : Memref sig .tc .vmem S1x1 .f32) (h2 : M2.IsWhole)
    (X : S4096x64.Idx → Elt F .f32) (C : S8192x128.Idx → Elt F .bf16) (T : S1x1.Idx → Elt F .f32) (E : Set ℕ) (Q : PUnit → sProp 𝕄) :
    iprop(pt c M0 (h0.unread X) ∗ pt c M1 (h1.unread C) ∗ pt c M2 (h2.unread T)
        ∗ (iprop(pt c M0 (h0.unread X) ∗ pt c M1 (h1.unread C) ∗ pt c M2 (h2.unread (tileNext X C T))) -∗ Q ⟨⟩))
      ⊢ wp frame (wpE (defs₀ (F := F)) Variants.none c none) E (cc1__dist_body i M0 h0 M1 h1 M2 h2) Q := by
  rw [cc1__dist_body_eq_skeleton]; unfold cc1__dist_body_skel
  rw [k1_part1_eq_skeleton, k1_part2_eq_skeleton, k1_part3_eq_skeleton, k1_part4_eq_skeleton]
  iintro ⟨H0, H1, H2, Hk⟩
  sl_exec!
  sl_step
  rw [h2.eq_unread (X := tileNext X C T) (f := M2.view.writes (Elt F) M2.view.junk (dist_run1.sl.H2_1 M0 h0 M1 h1 M2 h2 X C T))
    (by sl_open_run
        rw [View.read_writes_full, View.readAt_full, View.readAt_full, h0.read_unread, h2.read_unread]
        simp only [View.readAt_eq_ld, h1.read_unread]
        rfl)]
  iapply Hk
  isplitl [H0]; · iexact H0
  isplitl [H1]; · iexact H1
  iexact H2

/-- A whole memref owned at `X` is its buffer held whole at the contents reading `X`. -/
theorem owns_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  have h₁ : (owns (c : Thread nD τ) M fullShare X : sProp 𝕄) ⊢ pt c M (h.unread X) := by
    unfold owns
    iintro ⟨%f, %hf, H⟩
    rw [h.eq_unread hf, h.set_eq_univ]
    iexact H
  have h₂ : (pt c M (h.unread X) : sProp 𝕄) ⊢ owns (c : Thread nD τ) M fullShare X := by
    unfold owns
    rw [h.set_eq_univ]
    iintro H
    iexists _; isplitr; swap; (· iexact H)
    ipureintro; exact h.read_unread X
  exact BI.Entails.antisymm h₁ h₂

/-- The codebook kernel over owned buffers. -/
theorem prep_owns (c : Dev nD) (i : grid0.Coords) (M0 : Memref sig .tc .vmem S8192x64 .f32) (h0 : M0.IsWhole)
    (M1 : Memref sig .tc .vmem S8192x128 .bf16) (h1 : M1.IsWhole) (X : S8192x64.Idx → Elt F .f32) (d1 : S8192x128.Idx → Elt F .bf16)
    (E : Set ℕ) (Q : PUnit → sProp 𝕄) :
    iprop(owns (c : Thread nD τ) M0 fullShare X ∗ owns (c : Thread nD τ) M1 fullShare d1
        ∗ (iprop(owns (c : Thread nD τ) M0 fullShare X ∗ owns (c : Thread nD τ) M1 fullShare (k0_pay1 X)) -∗ Q ⟨⟩))
      ⊢ wp frame (wpE (defs₀ (F := F)) Variants.none c none) E (cc0__prep_body i M0 h0 M1 h1) Q := by
  rw [owns_pt c M0 h0, owns_pt c M1 h1, owns_pt c M1 h1]
  exact prep_run c i M0 h0 M1 h1 X _ E Q

/-- The distance kernel over owned buffers, at a point where it initialises the total. -/
theorem dist_owns0 (c : Dev nD) (i : grid1.Coords) (hc1 : k1_cond1 i = 1#1) (hc2 : ¬ k1_cond2 i = 1#1)
    (M0 : Memref sig .tc .vmem S4096x64 .f32) (h0 : M0.IsWhole)
    (M1 : Memref sig .tc .vmem S8192x128 .bf16) (h1 : M1.IsWhole) (M2 : Memref sig .tc .vmem S1x1 .f32) (h2 : M2.IsWhole)
    (X : S4096x64.Idx → Elt F .f32) (C : S8192x128.Idx → Elt F .bf16) (d2 : S1x1.Idx → Elt F .f32) (E : Set ℕ) (Q : PUnit → sProp 𝕄) :
    iprop(owns (c : Thread nD τ) M0 fullShare X ∗ owns (c : Thread nD τ) M1 fullShare C ∗ owns (c : Thread nD τ) M2 fullShare d2
        ∗ (iprop(owns (c : Thread nD τ) M0 fullShare X ∗ owns (c : Thread nD τ) M1 fullShare C
            ∗ owns (c : Thread nD τ) M2 fullShare (tileFirst X C)) -∗ Q ⟨⟩))
      ⊢ wp frame (wpE (defs₀ (F := F)) Variants.none c none) E (cc1__dist_body i M0 h0 M1 h1 M2 h2) Q := by
  rw [owns_pt c M0 h0, owns_pt c M1 h1, owns_pt c M2 h2, owns_pt c M2 h2]
  exact dist_run0 c i hc1 hc2 M0 h0 M1 h1 M2 h2 X C _ E Q

/-- The distance kernel over owned buffers, at a point where it adds to the total. -/
theorem dist_owns1 (c : Dev nD) (i : grid1.Coords) (hc1 : ¬ k1_cond1 i = 1#1) (hc2 : k1_cond2 i = 1#1)
    (M0 : Memref sig .tc .vmem S4096x64 .f32) (h0 : M0.IsWhole)
    (M1 : Memref sig .tc .vmem S8192x128 .bf16) (h1 : M1.IsWhole) (M2 : Memref sig .tc .vmem S1x1 .f32) (h2 : M2.IsWhole)
    (X : S4096x64.Idx → Elt F .f32) (C : S8192x128.Idx → Elt F .bf16) (T : S1x1.Idx → Elt F .f32) (E : Set ℕ) (Q : PUnit → sProp 𝕄) :
    iprop(owns (c : Thread nD τ) M0 fullShare X ∗ owns (c : Thread nD τ) M1 fullShare C ∗ owns (c : Thread nD τ) M2 fullShare T
        ∗ (iprop(owns (c : Thread nD τ) M0 fullShare X ∗ owns (c : Thread nD τ) M1 fullShare C
            ∗ owns (c : Thread nD τ) M2 fullShare (tileNext X C T)) -∗ Q ⟨⟩))
      ⊢ wp frame (wpE (defs₀ (F := F)) Variants.none c none) E (cc1__dist_body i M0 h0 M1 h1 M2 h2) Q := by
  rw [owns_pt c M0 h0, owns_pt c M1 h1, owns_pt c M2 h2, owns_pt c M2 h2]
  exact dist_run1 c i hc1 hc2 M0 h0 M1 h1 M2 h2 X C T E Q

end Cert.Vq
end
-- ==== Proof.Vq.Dats.lean ====
/- The two pipelines' proof data at an entry valuation, and their body obligations. -/
module

public import proofs.«01_k».proof.Proof.Vq.Body

@[expose] public section

noncomputable section

namespace Cert.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The codebook as the first pipeline stages it, the array at the entry valuation. -/
def book (c : Dev nD) (t : Fin cfg0.N) : S8192x64.Idx → Elt F .f32 :=
  ((cfg0.win 0).blk t).view.read (Elt F) (V c main_arg1)

/-- The tile of inputs the second pipeline stages at point `t`, the array at the entry valuation. -/
def tileIn (c : Dev nD) (t : Fin cfg1.N) : S4096x64.Idx → Elt F .f32 :=
  ((cfg1.win 0).blk t).view.read (Elt F) (V c main_v1)

/-- The augmented codebook as the second pipeline stages it, the array at the entry valuation. -/
def bookIn (c : Dev nD) (t : Fin cfg1.N) : S8192x128.Idx → Elt F .bf16 :=
  ((cfg1.win 1).blk t).view.read (Elt F) (V c main_call0_v0)

/-- The running total after point `t`: the first tile's contribution, then the second's added. -/
def total (c : Dev nD) (t : Fin cfg1.N) : S1x1.Idx → Elt F .f32 :=
  if t.val = 0 then tileFirst (tileIn V c t) (bookIn V c t)
  else tileNext (tileIn V c t) (bookIn V c t) (tileFirst (tileIn V c t1_0) (bookIn V c t1_0))

/-- The first pipeline's proof data entered at `V`: the codebook's buffer left as fetched, the result's reading the
    augmented codebook. -/
def dat0 (c : Dev nD) : Dat τ (Elt F) Unit ℕ (UR sig nD τ) ℕ cfg0 c where
  A w := V c (Pipeline.arrRef spec0 w)
  after w t := match w with
    | ⟨0, _⟩ => book V c t
    | ⟨1, _⟩ => k0_pay1 (book V c t)
  Φ _ := Pipeline.scopedRest (Ix := Unit) (Name := ℕ) (U := UR sig nD τ) (Lvl := ℕ) (Val := Elt F) spec0 c
  q _ := fullShare
  owed _ := 0

/-- The second pipeline's proof data entered at `V`: the inputs' buffers left as fetched, the total's at the running
    total. -/
def dat1 (c : Dev nD) : Dat τ (Elt F) Unit ℕ (UR sig nD τ) ℕ cfg1 c where
  A w := V c (Pipeline.arrRef spec1 w)
  after w t := match w with
    | ⟨0, _⟩ => tileIn V c t
    | ⟨1, _⟩ => bookIn V c t
    | ⟨2, _⟩ => total V c t
  Φ _ := Pipeline.scopedRest (Ix := Unit) (Name := ℕ) (U := UR sig nD τ) (Lvl := ℕ) (Val := Elt F) spec1 c
  q _ := fullShare
  owed _ := 0

theorem A0 (c : Dev nD) (w : Fin cfg0.W) : (dat0 V c).A w = V c (Pipeline.arrRef spec0 w) := rfl
theorem A1 (c : Dev nD) (w : Fin cfg1.W) : (dat1 V c).A w = V c (Pipeline.arrRef spec1 w) := rfl

/-- The codebook's buffer holds the codebook when the first body runs. -/
theorem before0_0 (c : Dev nD) (t : Fin cfg0.N) (d) : (dat0 V c).before 0 t d = book V c t := by
  rw [(dat0 V c).before_in_eq_fetched 0 rfl (fun _ => rfl) (fun _ _ _ => rfl) (fun _ => rfl)]; rfl

/-- The first input's buffer holds its tile when the second body runs. -/
theorem before1_0 (c : Dev nD) (t : Fin cfg1.N) (d) : (dat1 V c).before 0 t d = tileIn V c t := by
  rw [(dat1 V c).before_in_eq_fetched 0 rfl (fun _ => rfl) (fun _ _ _ => rfl) (fun _ => rfl)]; rfl

/-- The second input's buffer holds the augmented codebook when the second body runs. -/
theorem before1_1 (c : Dev nD) (t : Fin cfg1.N) (d) : (dat1 V c).before 1 t d = bookIn V c t := by
  rw [(dat1 V c).before_in_eq_fetched 1 rfl (fun _ => rfl) (fun _ _ _ => rfl) (fun _ => rfl)]; rfl

/-- At every point the second body stores the total: the first point initialises it, the other adds to it. -/
theorem not_idle : ∀ i : grid1.Coords, cfg1.idle 2 i = false :=
  (by decide +kernel : ∀ i : grid1.Coords, idle1 2 i = false)

/-- The total's buffer holds the first point's total when the second body runs at the second point. -/
theorem before1_2 (c : Dev nD) (d) : (dat1 V c).before 2 t1_1 d = total V c t1_0 := by
  rw [(dat1 V c).before_out_kept 2 rfl t1_1 (by decide)
    (by rw [← Bool.not_eq_true]; intro h; exact absurd ((flush1_2 _).mp h) (by decide)) not_idle (fun _ _ => rfl)]
  rfl

/-- The first body meets the pipeline's obligation. -/
theorem body0 (c : Dev nD) : BodyObligation (dat0 V c) (defs₀ (F := F)) Variants.none () Set.univ := fun t => by
  rw [bigSep_W0, bigSep_W0]
  rw [show (dat0 V c).Φ t.castSucc = Pipeline.scopedRest spec0 c from rfl, show (dat0 V c).Φ t.succ = Pipeline.scopedRest spec0 c from rfl,
    show (dat0 V c).owesAt () t.succ = (dat0 V c).owesAt () t.castSucc from rfl]
  iintro ⟨HΦ, Howes, ⟨%d0, H0⟩, ⟨%d1, H1⟩⟩
  rw [before0_0]
  iapply (prep_owns c (grid0.coords t) ((cfg0.win 0).stage (cfg0.slots t 0)) (hstage0_0 ((cfg0.slots t 0).cast nbuf0_0))
    ((cfg0.win 1).stage (cfg0.slots t 1)) (hstage0_1 ((cfg0.slots t 1).cast nbuf0_1)) (book V c t) ((dat0 V c).before 1 t d1) Set.univ _)
  isplitl [H0]; · iexact H0
  isplitl [H1]; · iexact H1
  iintro ⟨H0, H1⟩
  isplitl [HΦ]; · iexact HΦ
  isplitl [Howes]; · iexact Howes
  isplitl [H0]; · iexact H0
  iexact H1

/-- The total at the first point. -/
theorem total_0 (c : Dev nD) : total V c t1_0 = tileFirst (tileIn V c t1_0) (bookIn V c t1_0) := if_pos rfl

/-- The total at the second point. -/
theorem total_1 (c : Dev nD) : total V c t1_1 = tileNext (tileIn V c t1_1) (bookIn V c t1_1) (total V c t1_0) := by
  rw [total_0]; exact if_neg (by decide)

/-- The second body meets the pipeline's obligation. -/
theorem body1 (c : Dev nD) : BodyObligation (dat1 V c) (defs₀ (F := F)) Variants.none () Set.univ := fun t => by
  rw [bigSep_W1, bigSep_W1]
  rw [show (dat1 V c).Φ t.castSucc = Pipeline.scopedRest spec1 c from rfl, show (dat1 V c).Φ t.succ = Pipeline.scopedRest spec1 c from rfl,
    show (dat1 V c).owesAt () t.succ = (dat1 V c).owesAt () t.castSucc from rfl]
  rw [not_idle]
  iintro ⟨HΦ, Howes, ⟨%d0, H0⟩, ⟨%d1, H1⟩, ⟨%d2, H2⟩⟩
  rw [before1_0, before1_1]
  have h0 := hstage1_0 ((cfg1.slots t 0).cast nbuf1_0)
  have h1 := hstage1_1 ((cfg1.slots t 1).cast nbuf1_1)
  have h2 := hstage1_2 ((cfg1.slots t 2).cast nbuf1_2)
  by_cases ht : t = t1_0
  · iapply (dist_owns0 c (grid1.coords t) (by rw [ht]; decide +kernel) (by rw [ht]; decide +kernel) ((cfg1.win 0).stage (cfg1.slots t 0)) h0
      ((cfg1.win 1).stage (cfg1.slots t 1)) h1 ((cfg1.win 2).stage (cfg1.slots t 2)) h2
      (tileIn V c t) (bookIn V c t) ((dat1 V c).before 2 t d2) Set.univ _)
    isplitl [H0]; · iexact H0
    isplitl [H1]; · iexact H1
    isplitl [H2]; · iexact H2
    rw [show (dat1 V c).after 2 t = tileFirst (tileIn V c t) (bookIn V c t) from if_pos (by rw [ht]; rfl)]
    iintro ⟨H0, H1, H2⟩
    isplitl [HΦ]; · iexact HΦ
    isplitl [Howes]; · iexact Howes
    isplitl [H0]; · iexact H0
    isplitl [H1]; · iexact H1
    iexact H2
  · have ht1 : t = t1_1 := (fin_N1 t).resolve_left ht
    rw [show (dat1 V c).before 2 t d2 = total V c t1_0 from by rw [ht1]; exact before1_2 V c d2]
    iapply (dist_owns1 c (grid1.coords t) (by rw [ht1]; decide +kernel) (by rw [ht1]; decide +kernel) ((cfg1.win 0).stage (cfg1.slots t 0)) h0
      ((cfg1.win 1).stage (cfg1.slots t 1)) h1 ((cfg1.win 2).stage (cfg1.slots t 2)) h2
      (tileIn V c t) (bookIn V c t) (total V c t1_0) Set.univ _)
    isplitl [H0]; · iexact H0
    isplitl [H1]; · iexact H1
    isplitl [H2]; · iexact H2
    rw [show (dat1 V c).after 2 t = tileNext (tileIn V c t) (bookIn V c t) (total V c t1_0) from by rw [ht1]; exact total_1 V c]
    iintro ⟨H0, H1, H2⟩
    isplitl [HΦ]; · iexact HΦ
    isplitl [Howes]; · iexact Howes
    isplitl [H0]; · iexact H0
    isplitl [H1]; · iexact H1
    iexact H2

end Cert.Vq
end
-- ==== Proof.Vq.Run.lean ====
/- @main run to its end: the two regions between its host operations, from any memory, the last contents of every
   unscoped buffer named. -/
module

public import proofs.«01_k».proof.Proof.Vq.Dats

@[expose] public section

noncomputable section

namespace Cert.Vq

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents after each region -/

/-- A valuation read at the TensorCore's references. -/
abbrev refsAt (V : Dev nD → Valuation τ sig (Elt F)) (c : Dev nD) (b : Ref sig .tc) : Buf (Elt F) ((c : Thread nD τ).loc b) := V c b

/-- The augmented codebook the first region leaves. -/
def aug (c : Dev nD) : Buf (Elt F) ((c : Thread nD τ).loc main_call0_v0) := (dat0 (refsAt (V1 m)) c).arrAt 1 cfg0.N

/-- The unscoped buffers after the first region. -/
def W2 (c : Dev nD) : Valuation τ sig (Elt F) := Function.update (V1 m c) main_call0_v0 (aug m c)

/-- The total the second region leaves. -/
def tot (c : Dev nD) : Buf (Elt F) ((c : Thread nD τ).loc main_call0_v1) := (dat1 (refsAt (W2 m)) c).arrAt 2 cfg1.N

/-- The unscoped buffers after the second region. -/
def W3 (c : Dev nD) : Valuation τ sig (Elt F) := Function.update (W2 m c) main_call0_v1 (tot m c)

theorem W2_self (c : Dev nD) : refsAt (W2 m) c main_call0_v0 = aug m c := Function.update_self _ _ _
theorem W2_ne (c : Dev nD) (b : Ref sig .tc) (h : b ≠ main_call0_v0) : refsAt (W2 m) c b = refsAt (V1 m) c b :=
  Function.update_of_ne (StableHlo.devRef_ne_of_ne h) _ _
theorem W3_self (c : Dev nD) : refsAt (W3 m) c main_call0_v1 = tot m c := Function.update_self _ _ _
theorem W3_ne (c : Dev nD) (b : Ref sig .tc) (h : b ≠ main_call0_v1) : refsAt (W3 m) c b = refsAt (W2 m) c b :=
  Function.update_of_ne (StableHlo.devRef_ne_of_ne h) _ _

/-- What the regions leave, as the launch's unknowns. -/
def outs : Outs (F := F) := fun _ r c => W3 m c r

theorem V2_eq (c : Dev nD) : V2 m (outs m) c = W2 m c := by
  have h : outs m 2 main_call0_v0 c = aug m c := by
    unfold outs W3 W2
    rw [Function.update_of_ne (StableHlo.devRef_ne_of_ne (by decide) : (Proc.devRef .tc main_call0_v0 : DevRef τ sig) ≠ Proc.devRef .tc main_call0_v1), Function.update_self]
  unfold V2 W2; rw [h]

theorem V3_eq (c : Dev nD) : V3 m (outs m) c = W3 m c := by
  have h : outs m 3 main_call0_v1 c = tot m c := by
    unfold outs W3
    rw [Function.update_self]
  unfold V3; rw [V2_eq, h]; rfl

/-! ## The regions -/

/-- The two pipelines' proof data, each at the contents its region is entered with. -/
def pdats : (p : Fin 2) → (c : Dev nD) → Dat τ (Elt F) Unit ℕ (UR sig nD τ) ℕ (cfgs p) c
  | ⟨0, _⟩ => fun c => dat0 (refsAt (V1 m)) c
  | ⟨1, _⟩ => fun c => dat1 (refsAt (W2 m)) c

/-- No core owes another anything: no level is assigned. -/
abbrev L : GSem nD τ sig → Finset Unit := fun _ => ∅
abbrev lv : GSem nD τ sig → Unit → ℕ := fun _ _ => 0

/-- What a core's thread holds between items besides its buffers: its debts, none. -/
abbrev Rest (c : Dev nD) : sProp 𝕄 := iprop(∃ W, owes (c : Thread nD τ) (0 : CellTallies nD τ sig Unit) W)

set_option backward.isDefEq.respectTransparency.types false in
/-- A region of the program entered with the unscoped buffers at `V` and left with them at `V'`, for proof data that
    hold the scoped rest throughout, owe nothing and hold every array whole: `V` and `V'` agree away from the windows'
    arrays, and at them `V'` is what the pipeline computes. -/
def region (p : Fin 2) (lf : Pipeline.LaunchFacts (nD := nD) (τ := τ) cfgs p) (V V' : Dev nD → Valuation τ sig (Elt F))
    (hbody : ∀ c, BodyObligation (pdats m p c) (defs₀ (F := F)) Variants.none () Set.univ)
    (hΦ : ∀ c t, (pdats m p c).Φ t = Pipeline.scopedRest (Ix := Unit) (Name := ℕ) (U := UR sig nD τ) (Lvl := ℕ) (Val := Elt F) (cfgs p).spec c)
    (howed : ∀ c t, (pdats m p c).owed t = 0) (hq : ∀ c w, (pdats m p c).q w = fullShare)
    (hrec : ∀ c x, x ∈ (pdats m p c).recorded 0)
    (hA : ∀ c w, (pdats m p c).A w = refsAt V c (Pipeline.arrRef (cfgs p).spec w))
    (hV' : ∀ c w, (pdats m p c).arrAt w (cfgs p).N = refsAt V' c (Pipeline.arrRef (cfgs p).spec w))
    (hoff : ∀ c (b : Ref sig .tc), b ∉ Finset.univ.image (Pipeline.arrRef (cfgs p).spec) → refsAt V' c b = refsAt V c b) :
    RegionSeg (pcfgs (F := F)) adm (pdats m) () defs₀ Variants.none L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ Rest c)
  post c := iprop(StableHlo.held (c : Thread nD τ) (Pipeline.ucRefs τ sig) (V' c) ∗ Rest c)
  X _ := BI.emp
  Y _ := BI.emp
  Z c := Pipeline.unscopedRest (Ix := Unit) (Name := ℕ) (U := UR sig nD τ) (Lvl := ℕ) (cfgs p).spec c (refsAt V c)
  hentry c := by
    rw [Pipeline.ownSems0_none, ← Pipeline.unscopedBufs_held c (V c)]
    have hsplit := Pipeline.arrays_of_unscopedBufs (p := p) (pcfgs (F := F)) adm (pdats m) lf.win lf.arr_whole c
      ((pdats m p c).share_full (hq c)) (refsAt V c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun x _ => Or.inl (hrec c x)
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ) lf.win lf.arr_whole c
      (pdats m) ((pdats m p c).share_full (hq c)) (refsAt V c) (refsAt V' c) ((pdats m p c).arrAt · (cfgs p).N)
      (hV' c) (hoff c)
    rw [← Pipeline.unscopedBufs_held c (V' c)]
    iintro ⟨Ha, HO, -, Hrest⟩
    imodintro
    isplitl [Ha Hrest]
    · iapply hjoin; isplitl [Ha] <;> iassumption
    unfold Pipeline.Dat.owesAt Pipeline.owesWithin
    rw [howed]
    icases HO with ⟨%W, -, HO⟩; iexists W; iexact HO

/-- The first region: from the buffers after the first host operations to those with the augmented codebook. -/
def region0 : RegionSeg (pcfgs (F := F)) adm (pdats m) () defs₀ Variants.none L lv 0 :=
  region m 0 launch0 (V1 m) (W2 m) (fun c => body0 _ c) (fun _ _ => rfl) (fun _ _ => rfl) (fun _ _ => rfl) (fun _ _ => trivial)
    (A0 (refsAt (V1 m)))
    (fun c w => match w with
      | ⟨0, _⟩ => ((dat0 (refsAt (V1 m)) c).arrAt_in 0 rfl _).trans ((A0 (refsAt (V1 m)) c 0).trans (W2_ne m c main_arg1 (by decide)).symm)
      | ⟨1, _⟩ => (W2_self m c).symm)
    (fun c b hb => W2_ne m c b fun h => hb (Finset.mem_image.mpr ⟨1, Finset.mem_univ _, h.symm⟩))

/-- The second region: from the buffers with the augmented codebook to those with the total. -/
def region1 : RegionSeg (pcfgs (F := F)) adm (pdats m) () defs₀ Variants.none L lv 1 :=
  region m 1 launch1 (W2 m) (W3 m) (fun c => body1 _ c) (fun _ _ => rfl) (fun _ _ => rfl) (fun _ _ => rfl) (fun _ _ => trivial)
    (A1 (refsAt (W2 m)))
    (fun c w => match w with
      | ⟨0, _⟩ => ((dat1 (refsAt (W2 m)) c).arrAt_in 0 rfl _).trans ((A1 (refsAt (W2 m)) c 0).trans (W3_ne m c main_v1 (by decide)).symm)
      | ⟨1, _⟩ => ((dat1 (refsAt (W2 m)) c).arrAt_in 1 rfl _).trans ((A1 (refsAt (W2 m)) c 1).trans (W3_ne m c main_call0_v0 (by decide)).symm)
      | ⟨2, _⟩ => (W3_self m c).symm)
    (fun c b hb => W3_ne m c b fun h => hb (Finset.mem_image.mpr ⟨2, Finset.mem_univ _, h.symm⟩))

/-! ## The run -/

set_option backward.isDefEq.respectTransparency.types false in
/-- From any memory with every semaphore counter at zero, every weakly fair execution of @main on the TensorCores
    terminates, nothing faulting, with every unscoped buffer at the last valuation and every counter at zero. -/
theorem run_main (g : Dev nD → PrngReg) :
    θ_run defs (onTc (τ := τ) (main (F := F))) ⟨m, fun _ => 0, g⟩ (fun r => (∀ (c : Dev nD) (b : Ref sig .tc), b.isScoped = false →
      r.2.mem ((c.tc : Thread nD τ).loc b) = V5 m (outs m) c b) ∧ r.2.sem = fun _ => 0) := by
  have hb : ∀ c : Dev nD, (region1 m).post c ⊢ iprop(StableHlo.held (c : Thread nD τ) (Pipeline.ucRefs τ sig) (V3 m (outs m) c) ∗ Rest c) := fun c => by
    rw [V3_eq]; exact .rfl
  refine Pipeline.θ_run_regions_kit_dev_sems (pcfgs (F := F)) adm (pdats m) () cellOf_inj emb₁ defs₀ Variants.none L lv m g main
    (segs m (outs m) Variants.none L lv (fun _ => Rest) () (pdats m) (region0 m) (region1 m))
    (fun c Q => by
      rewrite [main_chain c, Seg.run_eq_chain,
        show (segs m (outs m) Variants.none L lv (fun _ => Rest) () (pdats m) (region0 m) (region1 m) c).map Seg.prog = [
          StableHlo.seq hostOps0,
          Prog.lift (.customCall (Pipeline.entry 0) ()),
          Prog.lift (.customCall (Pipeline.entry 1) ()),
          StableHlo.seq hostOps2,
          StableHlo.seq hostOps2_1 ] from rfl]
      dsimp (config := { failIfUnchanged := false }) only
      exact .rfl)
    (fun c => by simp only [segs, Seg.pipes_host, Seg.pipes_region, Seg.pipes_nil]; decide) (fun _ => 0) (fun _ _ => rfl) (fun _ => BI.emp)
    (initOf (Pipeline.cells cfgs cellOf_inj) (Pipeline.launchToks cfgs cellOf_inj)) ?_
    (T₀ := fun c => iprop(StableHlo.held (c : Thread nD τ) (Pipeline.ucRefs τ sig) (V0 m c) ∗ Rest c))
    (Tₙ := fun c => StableHlo.held (c : Thread nD τ) (Pipeline.ucRefs τ sig) (V5 m (outs m) c))
    (hch := fun c => ⟨.rfl, .rfl, .rfl, hb c, .rfl, .rfl⟩)
    (hinit := ?_) (QY := fun c s => ∀ b : Ref sig .tc, b.isScoped = false → s.mem ((c.tc : Thread nD τ).loc b) = V5 m (outs m) c b)
    (hfin := fun c s' => ?_) (hQ := fun _ h hz => ⟨h, funext fun g => hz g (.inr (regions_no_unscoped g.2))⟩)
  · rw [show (bigSep Finset.univ fun _ : Dev nD => (BI.emp : sProp 𝕄)) = BI.emp from bigSep_emp_const _]
    iintro H
    imodintro
    isplitl [H]
    · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
      iexact H
    iempintro
  · have h1 : ∀ c : Dev nD, iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ BI.emp)
        ⊢ (iprop(StableHlo.held (c : Thread nD τ) (Pipeline.ucRefs τ sig) (V0 m c) ∗ Rest c) : sProp 𝕄) := fun c => by
      rw [← Pipeline.unscopedBufs_held (Ix := Unit) (Name := ℕ) (U := UR sig nD τ) (Lvl := ℕ) c (V0 m c)]
      iintro ⟨Hb, -, HO, -, -, -⟩
      isplitl [Hb]; · iexact Hb
      iexists ∅; iexact HO
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ BI.emp))
        ⊢ (bigSep Finset.univ fun c : Dev nD => iprop(StableHlo.held (c : Thread nD τ) (Pipeline.ucRefs τ sig) (V0 m c) ∗ Rest c) : sProp 𝕄) :=
      bigSep_mono fun c _ => h1 c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by
        intro h'; exact Bool.false_ne_true (hb.symm.trans h')⟩)
    · iexact HSI

end Cert.Vq
end
-- ==== Proof.Vq.Min.lean ====
/- The row minima of the distance kernel: the least of a row's products with the rows of the augmented codebook. -/
module

public import proofs.«01_k».proof.Proof.Vq.Body
public import Idealize.ShloMosaic.Lib.Pointwise

@[expose] public section

set_option maxRecDepth 16384

noncomputable section

namespace Cert.Vq

open Idealize.ShloMosaic Idealize.ShloMosaic.TcCoe
open Idealize.SL.Sem
open Cert.KernelIdeal Cert.KernelIdeal.Gen

/-- The float pattern of plus infinity. -/
theorem inf_f32 : Ideal.ofBits .f32 0x7F800000#32 = ⊤ := by
  simp [Ideal.ofBits, Ideal.ieee]

/-- Row `r` of a tile times row `k` of the augmented codebook. -/
def prod (A : FVec Ideal S4096x128 .bf16) (C : FVec Ideal S8192x128 .bf16) (r : Fin 4096) (k : Fin 8192) : EReal :=
  ∑ j : Fin 128, A (ix2 r j) * C (ix2 k j)

/-- A chunk's running minimum in lane `l` is the least of the lane's four products. -/
theorem chunk_eq (A : FVec Ideal S4096x128 .bf16) (C : FVec Ideal S8192x128 .bf16) (o : ℕ) (ho : o ≤ 7680)
    (h : ∀ a, (![o, 0] : Fin 2 → ℕ) a + S512x128.size a ≤ S8192x128.size a) (r : Fin 4096) (l : Fin 128) :
    k1_pay14 (F := Ideal) A (rows C o h) (ix2 r l)
      = min (min (prod A C r ⟨o + l.val, by omega⟩) (prod A C r ⟨o + (128 + l.val), by omega⟩))
          (min (prod A C r ⟨o + (256 + l.val), by omega⟩) (prod A C r ⟨o + (384 + l.val), by omega⟩)) := by
  pointwise [k1_pay14, rows, prod]

/-- A number is below a product with a row given by its number exactly when it is below the product with every row of
    that number. -/
theorem le_prod (A : FVec Ideal S4096x128 .bf16) (C : FVec Ideal S8192x128 .bf16) (r : Fin 4096) (y : EReal) (n : ℕ) (hn : n < 8192) :
    y ≤ prod A C r ⟨n, hn⟩ ↔ ∀ k : Fin 8192, k.val = n → y ≤ prod A C r k :=
  ⟨fun h k e => by obtain rfl : k = ⟨n, hn⟩ := Fin.ext e
                   exact h, fun h => h ⟨n, hn⟩ rfl⟩

/-- A number is below a chunk's running minimum in lane `l` exactly when it is below the lane's four products. -/
theorem le_chunk (A : FVec Ideal S4096x128 .bf16) (C : FVec Ideal S8192x128 .bf16) (o : ℕ)
    (h : ∀ a, (![o, 0] : Fin 2 → ℕ) a + S512x128.size a ≤ S8192x128.size a) (r : Fin 4096) (l : Fin 128) (y : EReal) :
    y ≤ (k1_pay14 (F := Ideal) A (rows C o h) (ix2 r l) : EReal)
      ↔ ∀ k : Fin 8192, o ≤ k.val → k.val < o + 512 → k.val % 128 = (o + l.val) % 128 → y ≤ prod A C r k := by
  have h0 : o + 512 ≤ 8192 := h 0
  rw [chunk_eq A C o (by omega)]
  simp only [le_min_iff, le_prod, ← forall_and]
  refine forall_congr' fun k => ?_
  by_cases hP : y ≤ prod A C r k <;> simp only [hP, implies_true, imp_false, and_self]
  omega

/-- The lanes' minima over the whole codebook. -/
def best (A : FVec Ideal S4096x128 .bf16) (C : FVec Ideal S8192x128 .bf16) : FVec Ideal S4096x128 .f32 :=
  minimumf (minimumf (minimumf (minimumf (k1_pay14 A (rows C 0 inb_S8192x128_S512x128_0_0))
    (k1_pay14 A (rows C 512 inb_S8192x128_S512x128_512_0)))
    (minimumf (k1_pay14 A (rows C 1024 inb_S8192x128_S512x128_1024_0))
    (k1_pay14 A (rows C 1536 inb_S8192x128_S512x128_1536_0))))
    (minimumf (minimumf (k1_pay14 A (rows C 2048 inb_S8192x128_S512x128_2048_0))
    (k1_pay14 A (rows C 2560 inb_S8192x128_S512x128_2560_0)))
    (minimumf (k1_pay14 A (rows C 3072 inb_S8192x128_S512x128_3072_0))
    (k1_pay14 A (rows C 3584 inb_S8192x128_S512x128_3584_0)))))
    (minimumf (minimumf (minimumf (k1_pay14 A (rows C 4096 inb_S8192x128_S512x128_4096_0))
    (k1_pay14 A (rows C 4608 inb_S8192x128_S512x128_4608_0)))
    (minimumf (k1_pay14 A (rows C 5120 inb_S8192x128_S512x128_5120_0))
    (k1_pay14 A (rows C 5632 inb_S8192x128_S512x128_5632_0))))
    (minimumf (minimumf (k1_pay14 A (rows C 6144 inb_S8192x128_S512x128_6144_0))
    (k1_pay14 A (rows C 6656 inb_S8192x128_S512x128_6656_0)))
    (minimumf (k1_pay14 A (rows C 7168 inb_S8192x128_S512x128_7168_0))
    (k1_pay14 A (rows C 7680 inb_S8192x128_S512x128_7680_0)))))

/-- A number is below the lanes' minima exactly when it is below the products with the lane's rows. -/
theorem le_best (A : FVec Ideal S4096x128 .bf16) (C : FVec Ideal S8192x128 .bf16) (r : Fin 4096) (l : Fin 128) (y : EReal) :
    y ≤ best A C (ix2 r l) ↔ ∀ k : Fin 8192, k.val % 128 = l.val → y ≤ prod A C r k := by
  simp only [best, minimumf_apply, Ideal.minimumf_def, le_min_iff, le_chunk, ← forall_and]
  refine forall_congr' fun k => ?_
  by_cases hP : y ≤ prod A C r k <;> simp only [hP, implies_true, imp_false, and_self]
  omega

/-- The row minima are the least of the lanes' minima. -/
theorem rowMins_eq (X : FVec Ideal S4096x64 .f32) (C : FVec Ideal S8192x128 .bf16) :
    rowMins (F := Ideal) X C = shapeCast S4096x1 (multiReduction .minimumf [1] S4096 (best (k1_pay4 X) C) 0x7F800000#32 reduces_S4096x128_S4096
      (.inl rfl) rfl) shapeCasts_S4096_S4096x1 := rfl

/-- A number is below a row minimum exactly when it is below the row's product with every row of the augmented codebook. -/
theorem le_rowMins (X : FVec Ideal S4096x64 .f32) (C : FVec Ideal S8192x128 .bf16) (r : Fin 4096) (y : EReal) :
    y ≤ (rowMins (F := Ideal) X C : FVec Ideal S4096x1 .f32) (ix2 r 0) ↔ ∀ k : Fin 8192, y ≤ prod (k1_pay4 (F := Ideal) X) C r k := by
  rw [rowMins_eq]
  generalize hb : best (k1_pay4 (F := Ideal) X) C = B
  pointwise
  subst hb
  rw [Finset.le_fold_min, inf_f32]
  simp only [le_best, le_top, true_and, Finset.mem_univ, forall_true_left]
  exact ⟨fun h k => h ⟨k.val % 128, by omega⟩ k rfl, fun h l k _ => h k⟩

end Cert.Vq

end
-- ==== Proof.Vq.Entries.lean ====
/- What the two kernels compute for finite inputs: the augmented codebook, a row's least product, a tile's contribution. -/
module

public import proofs.«01_k».proof.Proof.Vq.Min

@[expose] public section

set_option maxRecDepth 16384

noncomputable section

namespace Cert.Vq

open Idealize.ShloMosaic Idealize.ShloMosaic.TcCoe
open Idealize.SL.Sem
open Cert.KernelIdeal Cert.KernelIdeal.Gen

/-- The float pattern of minus two. -/
theorem neg_two_f32 : Ideal.ofBits .f32 0xC0000000#32 = ((-2 : ℝ) : EReal) := by
  simp [Ideal.ofBits, Ideal.ieee]
  rw [← EReal.coe_mul]
  norm_num

/-- The float pattern of two. -/
theorem two_f32 : Ideal.ofBits .f32 0x40000000#32 = ((2 : ℝ) : EReal) := by
  simp [Ideal.ofBits, Ideal.ieee]
  rw [← EReal.coe_mul]
  norm_num

/-- The float pattern of `8192`. -/
theorem count_f32 : Ideal.ofBits .f32 0x46000000#32 = ((8192 : ℝ) : EReal) := by
  simp [Ideal.ofBits, Ideal.ieee]
  rw [← EReal.coe_mul]
  norm_num

/-- A sum over the augmented width: the entries, the two ones, the filling. -/
theorem sum_parts (f : Fin 128 → EReal) :
    ∑ j, f j = (∑ d : Fin 64, f ⟨d.val, by omega⟩) + (f 64 + (f 65 + ∑ j : Fin 62, f ⟨66 + j.val, by omega⟩)) := by
  rw [Fin.sum_univ_two_halves 64 64 rfl f, Fin.sum_univ_two_halves 1 63 rfl (fun k : Fin 64 => f ⟨64 + k.val, by omega⟩),
    Fin.sum_univ_two_halves 1 62 rfl (fun k : Fin 63 => f ⟨64 + (1 + k.val), by omega⟩), Fin.sum_univ_one, Fin.sum_univ_one]
  refine congrArg (_ + ·) (congrArg (f 64 + ·) (congrArg (f 65 + ·) (Finset.sum_congr rfl fun k _ => congrArg f (Fin.ext ?_))))
  show 64 + (1 + (1 + k.val)) = 66 + k.val
  omega

/-- A row of a tile times a row of the augmented codebook, written out. -/
theorem prod_eq (X : FVec Ideal S4096x64 .f32) (C : FVec Ideal S8192x64 .f32) (r : Fin 4096) (k : Fin 8192) :
    prod (k1_pay4 (F := Ideal) X) (k0_pay1 (F := Ideal) C) r k
      = (∑ d : Fin 64, (X (ix2 r d) : EReal) * (((-2 : ℝ) : EReal) * C (ix2 k d)))
        + ((∑ d : Fin 64, (C (ix2 k d) : EReal) * C (ix2 k d)) + 1) := by
  unfold prod
  rw [sum_parts, ← neg_two_f32]
  pointwise [k0_pay1, k1_pay4, k1_pay3]
  refine congrArg (_ + ·) (congrArg (_ + ·) ?_)
  rw [Finset.sum_eq_zero fun j _ => ?_, add_zero]
  rw [dif_neg (by omega), dif_neg (by omega), dif_neg (by omega), zero_mul]

/-- A tile's contribution, written out. -/
theorem tile_eq (X : FVec Ideal S4096x64 .f32) (R : FVec Ideal S4096x1 .f32) :
    (k1_pay1 (F := Ideal) R (k1_pay25 (k1_pay3 X)) (ix2 0 0) : EReal)
      = (∑ r : Fin 4096, ∑ d : Fin 64, (X (ix2 r d) : EReal) * X (ix2 r d)) + ∑ r : Fin 4096, R (ix2 r 0) := by
  pointwise [k1_pay1, k1_pay25, k1_pay3]
  simp only [Fin.sum_univ_one, Finset.sum_const, Finset.card_univ, Fintype.card_fin, one_smul]

/-- A finite sum of reals, each an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The squared distance of two rows. -/
def gap (x c : Fin 64 → ℝ) : ℝ := ∑ d, (x d - c d) * (x d - c d)

/-- A row's sum of squares. -/
def nrm (x : Fin 64 → ℝ) : ℝ := ∑ d, x d * x d

/-- A row of a tile times a row of the augmented codebook, for finite entries. -/
theorem prod_real (X : FVec Ideal S4096x64 .f32) (C : FVec Ideal S8192x64 .f32) (r : Fin 4096) (k : Fin 8192) (x c : Fin 64 → ℝ)
    (hx : ∀ d, X (ix2 r d) = (x d : EReal)) (hc : ∀ d, C (ix2 k d) = (c d : EReal)) :
    prod (k1_pay4 (F := Ideal) X) (k0_pay1 (F := Ideal) C) r k = ((gap x c - nrm x + 1 : ℝ) : EReal) := by
  rw [prod_eq]
  simp only [hx, hc, ← EReal.coe_mul, ← coe_sum, ← EReal.coe_add, ← EReal.coe_one]
  congr 1
  rw [gap, nrm, ← Finset.sum_sub_distrib, ← add_assoc, ← Finset.sum_add_distrib]
  congr 1
  exact Finset.sum_congr rfl fun d _ => by ring

/-- A row minimum, for finite entries and `p` a row of the codebook closest to the tile's row. -/
theorem rowMins_real (X : FVec Ideal S4096x64 .f32) (C : FVec Ideal S8192x64 .f32) (r : Fin 4096) (x : Fin 64 → ℝ) (c : Fin 8192 → Fin 64 → ℝ)
    (hx : ∀ d, X (ix2 r d) = (x d : EReal)) (hc : ∀ k d, C (ix2 k d) = (c k d : EReal)) (p : Fin 8192)
    (hp : ∀ k, gap x (c p) ≤ gap x (c k)) :
    (rowMins (F := Ideal) X (k0_pay1 (F := Ideal) C) : FVec Ideal S4096x1 .f32) (ix2 r 0) = ((gap x (c p) - nrm x + 1 : ℝ) : EReal) := by
  refine le_antisymm ?_ ((le_rowMins X _ r _).2 fun k => ?_)
  · rw [← prod_real X C r p x (c p) hx (hc p)]
    exact (le_rowMins X _ r _).1 le_rfl p
  · rw [prod_real X C r k x (c k) hx (hc k), EReal.coe_le_coe_iff]
    have := hp k
    linarith

/-- A tile's contribution, for finite entries: the sum of its rows' least squared distances and of one for each row. -/
theorem tile_real (X : FVec Ideal S4096x64 .f32) (C : FVec Ideal S8192x64 .f32) (x : Fin 4096 → Fin 64 → ℝ) (c : Fin 8192 → Fin 64 → ℝ)
    (hx : ∀ r d, X (ix2 r d) = (x r d : EReal)) (hc : ∀ k d, C (ix2 k d) = (c k d : EReal)) (p : Fin 4096 → Fin 8192)
    (hp : ∀ r k, gap (x r) (c (p r)) ≤ gap (x r) (c k)) :
    (tileFirst (F := Ideal) X (k0_pay1 (F := Ideal) C) (ix2 0 0) : EReal) = ((∑ r, gap (x r) (c (p r)) + 4096 : ℝ) : EReal) := by
  unfold tileFirst
  rw [tile_eq]
  simp only [fun r => rowMins_real X C r (x r) c (hx r) hc (p r) (hp r), hx, ← EReal.coe_mul, ← coe_sum, ← EReal.coe_add]
  congr 1
  rw [← Finset.sum_add_distrib]
  rw [show (4096 : ℝ) = ∑ r : Fin 4096, (1 : ℝ) by simp, ← Finset.sum_add_distrib]
  exact Finset.sum_congr rfl fun r _ => by rw [nrm]; ring

/-- The later tile's total is the running total and its own contribution. -/
theorem tileNext_eq (X : FVec Ideal S4096x64 .f32) (C : FVec Ideal S8192x128 .bf16) (T : FVec Ideal S1x1 .f32) :
    (tileNext (F := Ideal) X C T (ix2 0 0) : EReal) = T (ix2 0 0) + tileFirst (F := Ideal) X C (ix2 0 0) := by
  unfold tileNext tileFirst
  generalize k1_pay25 (F := Ideal) (k1_pay3 X) = A
  generalize rowMins (F := Ideal) X C = B
  unfold k1_pay2
  generalize k1_pay1 (F := Ideal) B A = D
  pointwise

end Cert.Vq

end
-- ==== Proof.Vq.Arrays.lean ====
/- What the two regions leave in their arrays, and what @main returns, over the argument arrays. -/
module

public import proofs.«01_k».proof.Proof.Vq.Run
public import proofs.«01_k».proof.Proof.Vq.Entries
public import Idealize.ShloMosaic.Lib.Pipeline.ValueKit
public import Idealize.ShloMosaic.Lib.Claim

@[expose] public section

set_option maxRecDepth 16384

noncomputable section

namespace Cert.Vq

open Idealize.ShloMosaic Idealize.ShloMosaic.TcCoe
open Idealize.SL.Sem
open Idealize.ShloMosaic.Pipeline (Dat)
open Cert.KernelIdeal Cert.KernelIdeal.Gen

variable (m : (ℓ : Loc nD τ sig) → Buf (Elt Ideal) ℓ)

/-- The codebook's window takes the whole array at every point. -/
theorem idx0 : ∀ t : Fin cfg0.N, win0_0.index t = ![0, 0] ∧ win0_1.index t = ![0, 0] :=
  (by decide +kernel : ∀ t : Fin grid0.N, _)

/-- The tiles' window takes the tile of the point's number, the other two the whole array. -/
theorem idx1 : ∀ t : Fin cfg1.N, win1_0.index t = ![t.val, 0] ∧ win1_1.index t = ![0, 0] ∧ win1_2.index t = ![0, 0] :=
  (by decide +kernel : ∀ t : Fin grid1.N, _)

/-- The codebook. -/
abbrev codes (c : Dev nD) : FVec Ideal S8192x64 .f32 := m ((c : Thread nD τ).loc main_arg1)

/-- The vectors. -/
abbrev vecs (c : Dev nD) : FVec Ideal S8x64x32x32 .f32 := m ((c : Thread nD τ).loc main_arg0)

/-- The vectors one row each. -/
def flatK (X : FVec Ideal S8x64x32x32 .f32) : FVec Ideal S8192x64 .f32 :=
  shapeCast S8192x64 (transpose S8x32x32x64 [0, 2, 3, 1] X transposes_S8x64x32x32_S8x32x32x64_0_2_3_1) shapeCasts_S8x32x32x64_S8192x64

/-- The first region's input block is the codebook. -/
theorem book_eq (c : Dev nD) (t : Fin cfg0.N) : book (refsAt (V1 m)) c t = codes m c := by
  unfold book refsAt
  rw [V1_of m c main_arg1 (by decide)]
  blk_ext! [idx0 t]

theorem after0_1 (V : (c : Dev nD) → (b : Ref sig .tc) → Buf (Elt Ideal) ((c : Thread nD τ).loc b)) (c : Dev nD) (t : Fin cfg0.N) :
    (dat0 V c).after 1 t = k0_pay1 (book V c t) := rfl

theorem after1_2 (V : (c : Dev nD) → (b : Ref sig .tc) → Buf (Elt Ideal) ((c : Thread nD τ).loc b)) (c : Dev nD) (t : Fin cfg1.N) :
    (dat1 V c).after 2 t = total V c t := rfl

/-- The first region leaves the augmented codebook. -/
theorem aug_eq (c : Dev nD) : aug m c = k0_pay1 (F := Ideal) (codes m c) := by
  unfold aug
  refine (dat0 (refsAt (V1 m)) c).arrAt_eq_of_after_last 1 t0_0 (by decide +kernel) _ fun j => ?_
  blk_simp
  rw [← book_eq m c t0_0, after0_1]

/-- The rows the second region reads. -/
theorem rows_eq (c : Dev nD) : (refsAt (W2 m) c main_v1 : FVec Ideal S8192x64 .f32) = flatK (vecs m c) := by
  rw [W2_ne m c main_v1 (by decide)]
  show StableHlo.after hostOps0 (V0 m c) (main_v1 : Ref sig .tc) = _
  after_results
  rfl

/-- The second region's tile at point `t`. -/
theorem tileIn_at (c : Dev nD) (t : Fin cfg1.N) (r : Fin 4096) (d : Fin 64) :
    (tileIn (refsAt (W2 m)) c t (ix2 r d) : EReal) = flatK (vecs m c) (ix2 ⟨4096 * t.val + r.val, by have := t.isLt; have : cfg1.N = 2 := rfl; omega⟩ d) := by
  rw [← rows_eq]
  unfold tileIn
  blk_ext [idx1 t]

/-- The second region's augmented codebook. -/
theorem bookIn_eq (c : Dev nD) (t : Fin cfg1.N) : bookIn (refsAt (W2 m)) c t = k0_pay1 (F := Ideal) (codes m c) := by
  rw [← aug_eq, ← W2_self m c]
  unfold bookIn
  blk_ext! [idx1 t]

/-- The second region leaves the total of the last point. -/
theorem tot_eq (c : Dev nD) : tot m c = total (refsAt (W2 m)) c t1_1 := by
  unfold tot
  refine (dat1 (refsAt (W2 m)) c).arrAt_eq_of_after_last 2 t1_1 (by decide +kernel) _ fun j => ?_
  blk_simp
  rw [after1_2]

/-- The second region's total. -/
def totV (c : Dev nD) : FVec Ideal S1x1 .f32 := tot m c

/-- The mean the kernel returns, over the total. -/
def meanK (T : FVec Ideal S1x1 .f32) : FVec Ideal S_ .f32 :=
  Host.divf (subf (shapeCast S_ T shapeCasts_S1x1_S_) (constant S_ .f32 0x46000000#32)) (constant S_ .f32 0x49000000#32)

/-- The weighed sum the kernel returns, over the mean. -/
def bothK (A : FVec Ideal S_ .f32) : FVec Ideal S_ .f32 := addf A (mulf (constant S_ .f32 0x3E800000#32) A)

/-- The total less the number of rows, after the first of the last host operations. -/
theorem less_eq (V : Valuation τ sig (Elt Ideal)) : (StableHlo.after hostOps2 V (main_v2 : Ref sig .tc) : FVec Ideal S_ .f32)
    = (subf (shapeCast S_ (V (main_call0_v1 : Ref sig .tc) : FVec Ideal S1x1 .f32) shapeCasts_S1x1_S_) (constant S_ .f32 0x46000000#32) : FVec Ideal S_ .f32) := by
  after_results
  rfl

/-- The quotient by the number of entries, after the last host operations. -/
theorem over_eq (V : Valuation τ sig (Elt Ideal)) : (StableHlo.after hostOps2_1 V (main_v3 : Ref sig .tc) : FVec Ideal S_ .f32)
    = (Host.divf (V (main_v2 : Ref sig .tc) : FVec Ideal S_ .f32) (constant S_ .f32 0x49000000#32) : FVec Ideal S_ .f32) := by
  after_results

/-- The mean the kernel returns. -/
theorem mean_eq (c : Dev nD) : (V5 m (outs m) c main_v3 : FVec Ideal S_ .f32) = meanK (totV m c) := by
  refine (over_eq (V4 m (outs m) c)).trans ?_
  unfold meanK
  refine congrArg (fun A : FVec Ideal S_ .f32 => Host.divf A (constant (F := Ideal) S_ .f32 0x49000000#32)) ((less_eq (V3 m (outs m) c)).trans ?_)
  refine congrArg (fun T : FVec Ideal S1x1 .f32 => subf (shapeCast S_ T shapeCasts_S1x1_S_) (constant (F := Ideal) S_ .f32 0x46000000#32)) ?_
  rw [V3_eq]
  exact W3_self m c

/-- The weighed sum the kernel returns. -/
theorem both_eq (c : Dev nD) : (V5 m (outs m) c main_v5 : FVec Ideal S_ .f32) = bothK (meanK (totV m c)) := by
  rw [← mean_eq]
  show StableHlo.after hostOps2_1 (V4 m (outs m) c) (main_v5 : Ref sig .tc) = bothK (StableHlo.after hostOps2_1 (V4 m (outs m) c) (main_v3 : Ref sig .tc))
  generalize V4 m (outs m) c = V
  after_results
  rfl

/-- The total, for finite entries: the least squared distances of all the rows, and one for each. -/
theorem tot_real (c : Dev nD) (x k : Fin 8192 → Fin 64 → ℝ) (hx : ∀ r d, flatK (vecs m c) (ix2 r d) = (x r d : EReal))
    (hk : ∀ r d, codes m c (ix2 r d) = (k r d : EReal)) (p : Fin 8192 → Fin 8192) (hp : ∀ r j, gap (x r) (k (p r)) ≤ gap (x r) (k j)) :
    (totV m c (ix2 0 0) : EReal) = ((∑ r, gap (x r) (k (p r)) + 8192 : ℝ) : EReal) := by
  unfold totV
  rw [tot_eq, total_1, total_0, tileNext_eq, bookIn_eq, bookIn_eq,
    tile_real _ _ (fun r : Fin 4096 => x ⟨r.val, by omega⟩) k _ hk (fun r : Fin 4096 => p ⟨r.val, by omega⟩) (fun r => hp _),
    tile_real _ _ (fun r : Fin 4096 => x ⟨4096 + r.val, by omega⟩) k _ hk (fun r : Fin 4096 => p ⟨4096 + r.val, by omega⟩) (fun r => hp _)]
  · rw [← EReal.coe_add, Fin.sum_univ_two_halves 4096 4096 rfl (fun r : Fin 8192 => gap (x r) (k (p r)))]
    congr 1
    ring
  · intro r d
    rw [tileIn_at, ← hx]
    exact congrArg (fun i => flatK (vecs m c) (ix2 i d)) (Fin.ext (by
      show 4096 * t1_1.val + r.val = 4096 + r.val
      rw [show t1_1.val = 1 from rfl]))
  · intro r d
    rw [tileIn_at, ← hx]
    exact congrArg (fun i => flatK (vecs m c) (ix2 i d)) (Fin.ext (by
      show 4096 * t1_0.val + r.val = r.val
      rw [show t1_0.val = 0 from rfl]
      omega))

end Cert.Vq

end
-- ==== Proof.Vq.Ref.lean ====
/- The reference's run: every result as a named term over the two argument arrays, from any memory, every counter at
   zero at the end. -/
module

public import proofs.«01_k».proof.Defs
public import proofs.«01_k».proof.Proof.Gen.ReferenceIdeal
public import Idealize.ShloMosaic.Lib.Claim

@[expose] public section

set_option maxRecDepth 16384

noncomputable section

namespace Cert.Vq.Ref

open Idealize.ShloMosaic Idealize.ShloMosaic.TcCoe
open Idealize.SL.Sem
open Cert.ReferenceIdeal Cert.ReferenceIdeal.Facts₀

/-- The vectors, channels last. -/
def nhwc (X : FVec Ideal S8x64x32x32 .f32) : FVec Ideal S8x32x32x64 .f32 :=
  transpose S8x32x32x64 [0, 2, 3, 1] X transposes_S8x64x32x32_S8x32x32x64_0_2_3_1

/-- The vectors, one row each. -/
def flat (X : FVec Ideal S8x64x32x32 .f32) : FVec Ideal S8192x64 .f32 :=
  shapeCast S8192x64 (nhwc X) shapeCasts_S8x32x32x64_S8192x64

/-- A row's sum of squares. -/
def sq (A : FVec Ideal S8192x64 .f32) : FVec Ideal S8192 .f32 :=
  Host.reduceAdd (mulf A A) (constant S_ .f32 0x00000000#32) reducesTo_S8192x64_S8192_d1 h_S_

/-- The distances of the rows of `A` to the rows of `C`. -/
def dist (A C : FVec Ideal S8192x64 .f32) : FVec Ideal S8192x8192 .f32 :=
  Host.sqrt (maximumf
    (subf
      (addf (broadcastInDim S8192x8192 ![0, 1] bcast_S8192x1_S8192x8192_0_1 (broadcastInDim S8192x1 ![0] bcast_S8192_S8192x1_0 (sq A)))
        (broadcastInDim S8192x8192 ![0, 1] bcast_S1x8192_S8192x8192_0_1 (broadcastInDim S1x8192 ![1] bcast_S8192_S1x8192_1 (sq C))))
      (Host.dotGeneral dot_S8192x64_S64x8192_S8192x8192_1_0_0_1_n_n none
        (mulf (broadcastInDim S8192x64 ![] bcast_S_S8192x64 (constant S_ .f32 0x40000000#32)) A)
        (transpose S64x8192 [1, 0] C transposes_S8192x64_S64x8192_1_0)))
    (broadcastInDim S8192x8192 ![] bcast_S_S8192x8192 (constant S_ .f32 0x00000000#32)))

/-- The index of each row's least entry. -/
def pick (D : FVec Ideal S8192x8192 .f32) : IVec S8192 32 := fun j =>
  (Host.argReduce reducer_argmin_f32_i32 D (iotaInDim S8192x8192 32 1) (constant S_ .f32 0x7F800000#32) (constantI S_ 32 0#32)
    reducesTo_S8192x8192_S8192_d1 h_S_ j).2

/-- An index counted from the end when negative, as a column. -/
def wrap (I : IVec S8192 32) : IVec S8192x1 32 :=
  broadcastInDim S8192x1 ![0] bcast_S8192_S8192x1_0
    (select (cmpi .slt I (broadcastInDim S8192 ![] bcast_S_S8192 (constantI S_ 32 0#32)))
      (addi I (broadcastInDim S8192 ![] bcast_S_S8192 (constantI S_ 32 8192#32))) I)

/-- Which of the indices name a row. -/
def inRange (J : IVec S8192x1 32) : IVec S8192 1 :=
  Host.reduce IntOp.andi
    (andi (cmpi .sge J (broadcastInDim S8192x1 ![] bcast_S_S8192x1 (constantI S_ 32 0#32)))
      (cmpi .sle J (broadcastInDim S8192x1 ![0, 1] bcast_S1x1_S8192x1_0_1 (broadcastInDim S1x1 ![1] bcast_S1_S1x1_1 (constantI S1 32 8191#32)))))
    (constantI S_ 1 1#1) reducesTo_S8192x1_S8192_d1 h_S_

/-- The rows of `C` the indices name, where the mask `M` is set. -/
def rows (M : IVec S8192 1) (C : FVec Ideal S8192x64 .f32) (J : IVec S8192x1 32) : FVec Ideal S8192x64 .f32 :=
  select (broadcastInDim S8192x64 ![0] bcast_S8192_S8192x64_0 M)
    (Host.gather gather_S8192x64_S8192x1_S8192x64_1_0_n_n_0_1_164 C J)
    (broadcastInDim S8192x64 ![] bcast_S_S8192x64 (constant S_ .f32 0x7FC00000#32))

/-- The rows of `C` the indices name. -/
def take (C : FVec Ideal S8192x64 .f32) (J : IVec S8192x1 32) : FVec Ideal S8192x64 .f32 := rows (inRange J) C J

/-- The code of each vector, channels last. -/
def quant (X : FVec Ideal S8x64x32x32 .f32) (C : FVec Ideal S8192x64 .f32) : FVec Ideal S8x32x32x64 .f32 :=
  shapeCast S8x32x32x64 (take C (wrap (pick (dist (flat X) C)))) shapeCasts_S8192x64_S8x32x32x64

/-- The mean of the squares of `A - B`. -/
def mse (A B : FVec Ideal S8x32x32x64 .f32) : FVec Ideal S_ .f32 :=
  Host.divf (Host.reduceAdd (mulf (subf A B) (subf A B)) (constant S_ .f32 0x00000000#32) reducesTo_S8x32x32x64_S_d0_1_2_3 h_S_)
    (constant S_ .f32 0x49000000#32)

/-- The two losses weighed together. -/
def both (A B : FVec Ideal S8x32x32x64 .f32) : FVec Ideal S_ .f32 :=
  addf (mse A B) (mulf (constant S_ .f32 0x3E800000#32) (mse B A))

/-- The vectors, channels second again. -/
def nchw (A : FVec Ideal S8x32x32x64 .f32) : FVec Ideal S8x64x32x32 .f32 :=
  transpose S8x64x32x32 [0, 3, 1, 2] A transposes_S8x32x32x64_S8x64x32x32_0_3_1_2

variable (m : (ℓ : Loc nD τ sig) → Buf (Elt Ideal) ℓ) (g : Dev nD → PrngReg)

/-- The reference has no semaphore: its counters are all the same function. -/
theorem sem_zero (f : Thread nD τ × SemLoc sig → Int) : f = fun _ => 0 := by
  funext ⟨c, s⟩
  rcases s with ⟨⟨i, hi⟩⟩ | ⟨⟨i, hi⟩⟩
  · exact absurd hi (Nat.not_lt_zero _)
  · exact absurd hi (Nat.not_lt_zero _)

/-- A straight line cut in two after its first `n` operations. -/
theorem after_cut (n : ℕ) : ∀ (ops : List (HloOp τ sig (Elt Ideal))) (V : Valuation τ sig (Elt Ideal)),
    StableHlo.after ops V = StableHlo.after (ops.drop n) (StableHlo.after (ops.take n) V) := by
  induction n with
  | zero => intro ops V; rfl
  | succ n ih =>
    intro ops V
    cases ops with
    | nil => rfl
    | cons o os => exact ih os _

/-- A valuation read at a reference. -/
abbrev at' (V : Valuation τ sig (Elt Ideal)) (b : Ref sig .tc) : b.ty.Contents (Elt Ideal) := V (Proc.devRef .tc b)

/-- What the reference's buffers hold after its operations, from any contents at all. -/
def Ends (V : Valuation τ sig (Elt Ideal)) (W : Valuation τ sig (Elt Ideal)) : Prop :=
  at' W main_v32 = nchw (nhwc (at' V main_arg0))
  ∧ at' W main_v31 = both (quant (at' V main_arg0) (at' V main_arg1)) (nhwc (at' V main_arg0))
  ∧ at' W main_v25 = mse (quant (at' V main_arg0) (at' V main_arg1)) (nhwc (at' V main_arg0))
  ∧ at' W main_v29 = mse (nhwc (at' V main_arg0)) (quant (at' V main_arg0) (at' V main_arg1))
  ∧ at' W main_arg0 = at' V main_arg0
  ∧ at' W main_arg1 = at' V main_arg1

/-- The reference's run. -/
theorem run :
    θ_run (defs (F := Ideal)) (onTc (τ := τ) (main (F := Ideal))) ⟨m, fun _ => 0, g⟩ (fun r => (∀ c : Dev nD,
      r.2.mem ((c.tc : Thread nD τ).loc main_v32) = nchw (nhwc (m ((c.tc : Thread nD τ).loc main_arg0)))
      ∧ r.2.mem ((c.tc : Thread nD τ).loc main_v31) = both (quant (m ((c.tc : Thread nD τ).loc main_arg0)) (m ((c.tc : Thread nD τ).loc main_arg1))) (nhwc (m ((c.tc : Thread nD τ).loc main_arg0)))
      ∧ r.2.mem ((c.tc : Thread nD τ).loc main_v25) = mse (quant (m ((c.tc : Thread nD τ).loc main_arg0)) (m ((c.tc : Thread nD τ).loc main_arg1))) (nhwc (m ((c.tc : Thread nD τ).loc main_arg0)))
      ∧ r.2.mem ((c.tc : Thread nD τ).loc main_v29) = mse (nhwc (m ((c.tc : Thread nD τ).loc main_arg0))) (quant (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine θ_run_mono (StableHlo.run_hlo _ _ (by hlo_seq) (by decide) (by decide) (by simp) (by intro _ h; (repeat (cases h with | head => rfl | tail _ h => ?_)); exact nomatch h) _ _)
    (fun r h => ⟨fun c => ?_, sem_zero _⟩)
  suffices hE : Ends (StableHlo.launchContents m c) (StableHlo.after _ (StableHlo.launchContents m c)) from
    ⟨(h c main_v32).trans hE.1, (h c main_v31).trans hE.2.1, (h c main_v25).trans hE.2.2.1, (h c main_v29).trans hE.2.2.2.1,
      (h c main_arg0).trans hE.2.2.2.2.1, (h c main_arg1).trans hE.2.2.2.2.2⟩
  clear h
  generalize StableHlo.launchContents m c = V0
  -- the distances
  rw [after_cut 23]
  simp only [List.take_succ_cons, List.take_zero, List.drop_succ_cons, List.drop_zero]
  generalize hV1 : StableHlo.after [_, _, _, _, _, _, _, _, _, _, _, _, _, _, _, _, _, _, _, _, _, _, _] V0 = V1
  have a0 : at' V1 main_arg0 = at' V0 main_arg0 := by rw [← hV1]; unfold at'; after_results
  have a1 : at' V1 main_arg1 = at' V0 main_arg1 := by rw [← hV1]; unfold at'; after_results
  have a2 : at' V1 main_v0 = nhwc (at' V0 main_arg0) := by rw [← hV1]; unfold at'; after_results; rfl
  have a3 : at' V1 main_v18 = dist (flat (at' V0 main_arg0)) (at' V0 main_arg1) := by rw [← hV1]; unfold at'; after_results; rfl
  clear hV1
  -- the nearest codes
  rw [after_cut 5]
  simp only [List.take_succ_cons, List.take_zero, List.drop_succ_cons, List.drop_zero]
  generalize hV2 : StableHlo.after [_, _, _, _, _] V1 = V2
  have b0 : at' V2 main_arg0 = at' V1 main_arg0 := by rw [← hV2]; unfold at'; after_results
  have b1 : at' V2 main_arg1 = at' V1 main_arg1 := by rw [← hV2]; unfold at'; after_results
  have b2 : at' V2 main_v0 = at' V1 main_v0 := by rw [← hV2]; unfold at'; after_results
  have b3 : at' V2 main_v19 = pick (at' V1 main_v18) := by rw [← hV2]; unfold at'; after_results; rfl
  clear hV2
  -- their rows
  rw [after_cut 8]
  simp only [List.take_succ_cons, List.take_zero, List.drop_succ_cons, List.drop_zero]
  generalize hV3 : StableHlo.after [_, _, _, _, _, _, _, _] V2 = V3
  have c0 : at' V3 main_arg0 = at' V2 main_arg0 := by rw [← hV3]; unfold at'; after_results
  have c1 : at' V3 main_arg1 = at' V2 main_arg1 := by rw [← hV3]; unfold at'; after_results
  have c2 : at' V3 main_v0 = at' V2 main_v0 := by rw [← hV3]; unfold at'; after_results
  have hI : at' V3 main_v19 = at' V2 main_v19 := by rw [← hV3]; unfold at'; after_results
  have h1 : at' V3 main_call1_v1 = (cmpi .slt (at' V2 main_v19 : IVec S8192 32) (broadcastInDim S8192 ![] bcast_S_S8192 (constantI S_ 32 0#32)) : IVec S8192 1) := by rw [← hV3]; unfold at'; after_results; rfl
  have h3 : at' V3 main_call1_v3 = (addi (at' V2 main_v19 : IVec S8192 32) (broadcastInDim S8192 ![] bcast_S_S8192 (constantI S_ 32 8192#32)) : IVec S8192 32) := by rw [← hV3]; unfold at'; after_results; rfl
  have h4 : at' V3 main_call1_v4 = (select (at' V3 main_call1_v1 : IVec S8192 1) (at' V3 main_call1_v3 : IVec S8192 32) (at' V3 main_v19 : IVec S8192 32) : IVec S8192 32) := by rw [← hV3]; unfold at'; after_results; rfl
  have h5 : at' V3 main_call1_v5 = (broadcastInDim S8192x1 ![0] bcast_S8192_S8192x1_0 (at' V3 main_call1_v4 : IVec S8192 32) : IVec S8192x1 32) := by rw [← hV3]; unfold at'; after_results; rfl
  have c3 : at' V3 main_call1_v5 = wrap (at' V2 main_v19) := by rw [h5, h4, h1, h3, hI]; rfl
  clear hI h1 h3 h4 h5
  clear hV3
  rw [after_cut 10]
  simp only [List.take_succ_cons, List.take_zero, List.drop_succ_cons, List.drop_zero]
  generalize hV4 : StableHlo.after [_, _, _, _, _, _, _, _, _, _] V3 = V4
  have d0 : at' V4 main_arg0 = at' V3 main_arg0 := by rw [← hV4]; unfold at'; after_results
  have d1 : at' V4 main_arg1 = at' V3 main_arg1 := by rw [← hV4]; unfold at'; after_results
  have d2 : at' V4 main_v0 = at' V3 main_v0 := by rw [← hV4]; unfold at'; after_results
  have d3 : at' V4 main_call1_v5 = at' V3 main_call1_v5 := by rw [← hV4]; unfold at'; after_results
  have h7 : at' V4 main_call1_v7 = (cmpi .sge (at' V3 main_call1_v5 : IVec S8192x1 32) (broadcastInDim S8192x1 ![] bcast_S_S8192x1 (constantI S_ 32 0#32)) : IVec S8192x1 1) := by rw [← hV4]; unfold at'; after_results; rfl
  have h10 : at' V4 main_call1_v10 = (cmpi .sle (at' V3 main_call1_v5 : IVec S8192x1 32) (broadcastInDim S8192x1 ![0, 1] bcast_S1x1_S8192x1_0_1 (broadcastInDim S1x1 ![1] bcast_S1_S1x1_1 (constantI S1 32 8191#32))) : IVec S8192x1 1) := by rw [← hV4]; unfold at'; after_results; rfl
  have h11 : at' V4 main_call1_v11 = (andi (at' V4 main_call1_v7 : IVec S8192x1 1) (at' V4 main_call1_v10 : IVec S8192x1 1) : IVec S8192x1 1) := by rw [← hV4]; unfold at'; after_results; rfl
  have h12 : at' V4 main_call1_v12 = (Host.reduce IntOp.andi (at' V4 main_call1_v11 : IVec S8192x1 1) (constantI S_ 1 1#1) reducesTo_S8192x1_S8192_d1 h_S_ : IVec S8192 1) := by rw [← hV4]; unfold at'; after_results; rfl
  have d4 : at' V4 main_call1_v12 = inRange (at' V3 main_call1_v5) := by rw [h12, h11, h7, h10]; rfl
  clear h7 h10 h11 h12
  clear hV4
  rw [after_cut 5]
  simp only [List.take_succ_cons, List.take_zero, List.drop_succ_cons, List.drop_zero]
  generalize hV5 : StableHlo.after [_, _, _, _, _] V4 = V5
  have e0 : at' V5 main_arg0 = at' V4 main_arg0 := by rw [← hV5]; unfold at'; after_results
  have e1 : at' V5 main_arg1 = at' V4 main_arg1 := by rw [← hV5]; unfold at'; after_results
  have e2 : at' V5 main_v0 = at' V4 main_v0 := by rw [← hV5]; unfold at'; after_results
  have h13 : at' V5 main_call1_v13 = (Host.gather gather_S8192x64_S8192x1_S8192x64_1_0_n_n_0_1_164 (at' V4 main_arg1 : FVec Ideal S8192x64 .f32) (at' V4 main_call1_v5 : IVec S8192x1 32) : FVec Ideal S8192x64 .f32) := by rw [← hV5]; unfold at'; after_results; rfl
  have h14 : at' V5 main_call1_v14 = (broadcastInDim S8192x64 ![0] bcast_S8192_S8192x64_0 (at' V4 main_call1_v12 : IVec S8192 1) : IVec S8192x64 1) := by rw [← hV5]; unfold at'; after_results; rfl
  have h15 : at' V5 main_call1_v15 = (broadcastInDim S8192x64 ![] bcast_S_S8192x64 (constant S_ .f32 0x7FC00000#32) : FVec Ideal S8192x64 .f32) := by rw [← hV5]; unfold at'; after_results; rfl
  have h16 : at' V5 main_v20 = (select (at' V5 main_call1_v14 : IVec S8192x64 1) (at' V5 main_call1_v13 : FVec Ideal S8192x64 .f32) (at' V5 main_call1_v15 : FVec Ideal S8192x64 .f32) : FVec Ideal S8192x64 .f32) := by rw [← hV5]; unfold at'; after_results; rfl
  have e3 : at' V5 main_v20 = rows (at' V4 main_call1_v12) (at' V4 main_arg1) (at' V4 main_call1_v5) := by rw [h16, h14, h13, h15]; rfl
  clear h13 h14 h15 h16
  clear hV5
  -- the losses
  have hq : (shapeCast S8x32x32x64 (at' V5 main_v20 : FVec Ideal S8192x64 .f32) shapeCasts_S8192x64_S8x32x32x64 : FVec Ideal S8x32x32x64 .f32)
      = quant (at' V0 main_arg0) (at' V0 main_arg1) := by
    rw [e3, d4, d1, d3, c1, c3, b3, a3, b1, a1]; rfl
  have hx : at' V5 main_v0 = nhwc (at' V0 main_arg0) := by rw [e2, d2, c2, b2, a2]
  refine ⟨?_, ?_, ?_, ?_, ?_, ?_⟩
  · rw [← hx]; unfold at'; after_results; rfl
  · rw [← hq, ← hx]; unfold at'; after_results; rfl
  · rw [← hq, ← hx]; unfold at'; after_results; rfl
  · rw [← hq, ← hx]; unfold at'; after_results; rfl
  · rw [← a0, ← b0, ← c0, ← d0, ← e0]; unfold at'; after_results
  · rw [← a1, ← b1, ← c1, ← d1, ← e1]; unfold at'; after_results

end Cert.Vq.Ref
end
-- ==== Proof.Vq.RefEntries.lean ====
/- What the reference computes for finite inputs: the distances, the index of the least, the rows taken. -/
module

public import proofs.«01_k».proof.Proof.Vq.Ref
public import proofs.«01_k».proof.Proof.Vq.Entries
public import Idealize.ShloMosaic.Lib.Pointwise
public import Idealize.ShloMosaic.Lib.Routing.Ops

@[expose] public section

set_option maxRecDepth 16384

noncomputable section

namespace Cert.Vq.Ref

open Idealize.ShloMosaic Idealize.ShloMosaic.TcCoe
open Idealize.SL.Sem
open Cert.ReferenceIdeal Cert.ReferenceIdeal.Facts₀

/-! ## The distances -/

/-- A distance, written out. -/
theorem dist_eq (A C : FVec Ideal S8192x64 .f32) (r k : Fin 8192) :
    (dist A C (ix2 r k) : EReal) = Ideal.sqrt (max
        ((∑ d : Fin 64, (A (ix2 r d) : EReal) * A (ix2 r d)) + (∑ d : Fin 64, (C (ix2 k d) : EReal) * C (ix2 k d))
          - ∑ d : Fin 64, ((2 : ℝ) : EReal) * A (ix2 r d) * C (ix2 k d)) 0) := by
  rw [← two_f32]
  pointwise [dist, sq]

/-- A squared distance is not negative. -/
theorem gap_nonneg (x c : Fin 64 → ℝ) : 0 ≤ gap x c := Finset.sum_nonneg fun _ _ => mul_self_nonneg _

/-- A distance, for finite entries: the root of the squared distance of the two rows. -/
theorem dist_real (A C : FVec Ideal S8192x64 .f32) (r k : Fin 8192) (x c : Fin 64 → ℝ)
    (hx : ∀ d, A (ix2 r d) = (x d : EReal)) (hc : ∀ d, C (ix2 k d) = (c d : EReal)) :
    (dist A C (ix2 r k) : EReal) = ((Real.sqrt (gap x c) : ℝ) : EReal) := by
  rw [dist_eq]
  simp only [hx, hc, ← EReal.coe_mul, ← coe_sum, ← EReal.coe_add, ← EReal.coe_sub]
  rw [show ∑ d, x d * x d + ∑ d, c d * c d - ∑ d, 2 * x d * c d = gap x c by
    rw [gap, ← Finset.sum_add_distrib, ← Finset.sum_sub_distrib]
    exact Finset.sum_congr rfl fun d _ => by ring]
  rw [max_eq_left (by exact_mod_cast gap_nonneg x c), Ideal.sqrt_coe, if_neg (not_lt.2 (gap_nonneg x c))]

/-! ## The rows taken -/

/-- A row number as a signed word. -/
theorem toInt_row (p : Fin 8192) : (BitVec.ofNat 32 p.val).toInt = p.val := by
  have hp := p.isLt
  have h : (BitVec.ofNat 32 p.val).toNat = p.val := by rw [BitVec.toNat_ofNat]; omega
  rw [BitVec.toInt_eq_toNat_of_lt (by omega), h]

/-- A row number counted from the end when negative is itself. -/
theorem wrap_at (I : IVec S8192 32) (r p : Fin 8192) (h : I (ix1 r) = BitVec.ofNat 32 p.val) : wrap I (ix2 r 0) = BitVec.ofNat 32 p.val := by
  pointwise [wrap]
  rw [h]
  refine if_neg fun e => ?_
  simp [IntOp.cmpi, BitVec.slt, toInt_row, show ¬ ((p.val : ℤ) < 0) by omega] at e

/-- A row number is in range. -/
theorem inRange_at (J : IVec S8192x1 32) (r p : Fin 8192) (h : J (ix2 r 0) = BitVec.ofNat 32 p.val) : inRange J (ix1 r) = 1#1 := by
  pointwise [inRange]
  rw [Finset.univ_unique]
  simp only [Finset.fold_singleton]
  rw [Subsingleton.elim default (0 : Fin 1), h]
  have hp := p.isLt
  simp [IntOp.cmpi, IntOp.andi, BitVec.sle, toInt_row, show (p.val : ℤ) ≤ 8191 by omega]

/-- The row taken is the one named. -/
theorem take_at (C : FVec Ideal S8192x64 .f32) (J : IVec S8192x1 32) (r p : Fin 8192) (d : Fin 64) (h : J (ix2 r 0) = BitVec.ofNat 32 p.val) :
    (take C J (ix2 r d) : EReal) = C (ix2 p d) := by
  unfold take
  have hM := inRange_at J r p h
  generalize inRange J = M at hM
  pointwise [rows]
  rw [hM]
  refine (show _ = Host.gather gather_S8192x64_S8192x1_S8192x64_1_0_n_n_0_1_164 C J (ix2 r d) from if_pos rfl).trans ?_
  exact Routing.gather_row gather_S8192x64_S8192x1_S8192x64_1_0_n_n_0_1_164 rfl rfl rfl rfl rfl C J r d p h (by omega)

/-! ## The means -/

/-- The mean of squares, written out. -/
theorem mse_eq (A B : FVec Ideal S8x32x32x64 .f32) (j : S_.Idx) : (mse A B j : EReal)
    = Ideal.div (∑ i : S8x32x32x64.Idx, ((A i : EReal) - B i) * (A i - B i)) (Ideal.ofBits .f32 0x49000000#32) := by
  pointwise [mse]
  unfold Ideal.hostReduceAdd
  rw [zero_add, Finset.filter_true_of_mem fun i _ => funext fun a => a.elim0]
  rfl

/-- The mean of squares of arrays given by their rows, for finite entries. -/
theorem mse_real (A B : FVec Ideal S8192x64 .f32) (a b : Fin 8192 → Fin 64 → ℝ) (hA : ∀ r d, A (ix2 r d) = (a r d : EReal))
    (hB : ∀ r d, B (ix2 r d) = (b r d : EReal)) :
    mse (shapeCast S8x32x32x64 A shapeCasts_S8192x64_S8x32x32x64) (shapeCast S8x32x32x64 B shapeCasts_S8192x64_S8x32x32x64)
      = fun _ => Ideal.div ((∑ r, gap (a r) (b r) : ℝ) : EReal) (Ideal.ofBits .f32 0x49000000#32) := by
  funext j
  rw [mse_eq]
  congr 1
  unfold shapeCast
  refine (Equiv.sum_comp (Shape.reshapeEquiv shapeCasts_S8192x64_S8x32x32x64) (fun i : S8192x64.Idx => ((A i : EReal) - B i) * (A i - B i))).trans ?_
  refine (sum_idx2 _).trans ?_
  simp only [hA, hB, ← EReal.coe_sub, ← EReal.coe_mul, ← coe_sum, gap]

/-- The vectors channels last are their rows, reshaped. -/
theorem nhwc_eq (X : FVec Ideal S8x64x32x32 .f32) : nhwc X = shapeCast S8x32x32x64 (flat X) shapeCasts_S8192x64_S8x32x32x64 := by
  unfold flat
  rw [shapeCast_comp, shapeCast_id]

/-- Channels moved last and back are where they were. -/
theorem nchw_nhwc (X : FVec Ideal S8x64x32x32 .f32) : nchw (nhwc X) = X := by
  funext j
  pointwise [nchw, nhwc]

end Cert.Vq.Ref

end
-- ==== Proof.Vq.Least.lean ====
/- The reference's arg-min: the index picked of a row of finite entries is that of a least one. -/
module

public import proofs.«01_k».proof.Proof.Vq.Ref
public import proofs.«01_k».proof.Proof.Vq.Entries
public import Idealize.ShloMosaic.Lib.Pointwise
public import Idealize.ShloMosaic.Lib.Routing.Ops

@[expose] public section

set_option maxRecDepth 16384

noncomputable section

namespace Cert.Vq.Ref

open Idealize.ShloMosaic Idealize.ShloMosaic.TcCoe
open Idealize.SL.Sem
open Cert.ReferenceIdeal Cert.ReferenceIdeal.Facts₀

/-- The reducer keeps one of its two values, the lesser, and at different values the pair it belongs to. -/
theorem keep (a b : Ideal .f32 × BitVec 32) :
    (reducer_argmin_f32_i32 (F := Ideal) a b = a ∨ reducer_argmin_f32_i32 (F := Ideal) a b = b)
      ∧ ((reducer_argmin_f32_i32 (F := Ideal) a b).1 : EReal) ≤ a.1 ∧ ((reducer_argmin_f32_i32 (F := Ideal) a b).1 : EReal) ≤ b.1 := by
  obtain ⟨u, i⟩ := a
  obtain ⟨v, j⟩ := b
  simp only [reducer_argmin_f32_i32, Ideal.cmpf_def]
  generalize hc : IntOp.cmpi .slt i j = c
  rcases lt_trichotomy (u : EReal) v with h | h | h
  · simp [Ideal.cmp, IntOp.ori, IntOp.andi, Scalar.select, h, h.le, h.ne]
  · subst h
    rcases (by decide : ∀ c : BitVec 1, c = 0#1 ∨ c = 1#1) c with rfl | rfl <;>
      simp [Ideal.cmp, IntOp.ori, IntOp.andi, Scalar.select]
  · simp [Ideal.cmp, IntOp.ori, IntOp.andi, Scalar.select, h.le, h.ne', not_lt.2 h.le]

/-- A fold of the reducer keeps one of the pairs it has met, of the least value. -/
theorem foldl_least (l : List (Ideal .f32 × BitVec 32)) (a : Ideal .f32 × BitVec 32) :
    (l.foldl (reducer_argmin_f32_i32 (F := Ideal)) a ∈ a :: l)
      ∧ ∀ b ∈ a :: l, ((l.foldl (reducer_argmin_f32_i32 (F := Ideal)) a).1 : EReal) ≤ b.1 := by
  induction l generalizing a with
  | nil => simp
  | cons b l ih =>
    obtain ⟨hm, hl⟩ := ih (reducer_argmin_f32_i32 a b)
    obtain ⟨hk, ha, hb⟩ := keep a b
    rw [List.foldl_cons]
    have hz := hl _ List.mem_cons_self
    refine ⟨?_, fun e he => ?_⟩
    · rcases List.mem_cons.1 hm with h | h
      · rw [h]
        rcases hk with h | h <;> rw [h] <;> simp
      · exact List.mem_cons_of_mem _ (List.mem_cons_of_mem _ h)
    · rcases List.mem_cons.1 he with rfl | h
      · exact hz.trans ha
      · rcases List.mem_cons.1 h with rfl | h
        · exact hz.trans hb
        · exact hl _ (List.mem_cons_of_mem _ h)

/-- The host's arg-min at an index: the initial pair or the pair of an entry of its fiber, its value below every entry's. -/
theorem least {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) :
    (Host.argReduce reducer_argmin_f32_i32 x y ix iy h hu j = (ix (Shape.Idx.first hu), iy (Shape.Idx.first hu))
        ∨ ∃ i, h.drop i = j ∧ Host.argReduce reducer_argmin_f32_i32 x y ix iy h hu j = (x i, y i))
      ∧ ∀ i, h.drop i = j → ((Host.argReduce reducer_argmin_f32_i32 x y ix iy h hu j).1 : EReal) ≤ x i := by
  rw [Ideal.argReduce_eq_reduce2, Host.reduce2_eq_foldl_fiber]
  obtain ⟨hm, hl⟩ := foldl_least (Host.argReduceFiber x y h j) (ix (Shape.Idx.first hu), iy (Shape.Idx.first hu))
  refine ⟨?_, fun i hi => hl (x i, y i) (List.mem_cons_of_mem _ ?_)⟩
  · rcases List.mem_cons.1 hm with e | e
    · exact .inl e
    · right
      unfold Host.argReduceFiber at e
      obtain ⟨n, hn, e⟩ := List.mem_map.1 e
      exact ⟨s.rowMajor.symm n, of_decide_eq_true (List.mem_filter.1 hn).2, e.symm⟩
  · unfold Host.argReduceFiber
    refine List.mem_map.2 ⟨s.rowMajor i, List.mem_filter.2 ⟨List.mem_finRange _, ?_⟩, ?_⟩
    · rw [Equiv.symm_apply_apply]; exact decide_eq_true hi
    · rw [Equiv.symm_apply_apply]

end Cert.Vq.Ref

end
-- ==== Proof.Vq.Pick.lean ====
/- The index the reference picks in a row of finite distances: that of a least one. -/
module

public import proofs.«01_k».proof.Proof.Vq.Ref
public import proofs.«01_k».proof.Proof.Vq.Least
public import Idealize.ShloMosaic.Lib.Pointwise

@[expose] public section

set_option maxRecDepth 16384

noncomputable section

namespace Cert.Vq.Ref

open Idealize.ShloMosaic Idealize.ShloMosaic.TcCoe
open Idealize.SL.Sem
open Cert.ReferenceIdeal Cert.ReferenceIdeal.Facts₀

/-- The row of an index of the table of distances. -/
theorem drop_eq (i : S8192x8192.Idx) : (reducesTo_S8192x8192_S8192_d1).drop i = ix1 (i 0) := by
  funext b
  match b with
  | ⟨0, _⟩ => exact Fin.ext (Shape.ReducesTo.drop_apply_val_of_eq reducesTo_S8192x8192_S8192_d1 i 0 0 (by decide) (by decide))

/-- Where the initial value is infinite and an entry of the fiber finite, the pair kept is that of a least entry. -/
theorem least_finite {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) (htop : (ix (Shape.Idx.first hu) : EReal) = ⊤)
    (i₀ : s.Idx) (hi₀ : h.drop i₀ = j) (hfin : (x i₀ : EReal) < ⊤) :
    ∃ i, h.drop i = j ∧ (Host.argReduce reducer_argmin_f32_i32 x y ix iy h hu j).2 = y i ∧ ∀ i', h.drop i' = j → (x i : EReal) ≤ x i' := by
  obtain ⟨hm, hl⟩ := least x y ix iy h hu j
  rcases hm with e | ⟨i, hi, e⟩
  · have := hl i₀ hi₀
    rw [e] at this
    exact absurd (htop ▸ this) (not_le.2 hfin)
  · exact ⟨i, hi, by rw [e], fun i' hi' => by have := hl i' hi'; rwa [e] at this⟩

/-- The indices picked, as the second halves of the arg-min's pairs. -/
theorem pick_eq (D : FVec Ideal S8192x8192 .f32) : pick D
    = fun j => (Host.argReduce reducer_argmin_f32_i32 D (iotaInDim S8192x8192 32 1) (constant S_ .f32 0x7F800000#32) (constantI S_ 32 0#32)
      reducesTo_S8192x8192_S8192_d1 h_S_ j).2 := rfl

/-- The index picked of a row of finite entries is that of a least one. -/
theorem pick_real (D : FVec Ideal S8192x8192 .f32) (r : Fin 8192) (δ : Fin 8192 → ℝ) (hD : ∀ k, D (ix2 r k) = (δ k : EReal)) :
    ∃ p : Fin 8192, pick D (ix1 r) = BitVec.ofNat 32 p.val ∧ ∀ k, δ p ≤ δ k := by
  obtain ⟨i, hi, e, hle⟩ := least_finite D (iotaInDim S8192x8192 32 1) (constant S_ .f32 0x7F800000#32) (constantI S_ 32 0#32)
    reducesTo_S8192x8192_S8192_d1 h_S_ (ix1 r) inf_f32 (ix2 r 0) (drop_eq _) ((hD 0).trans_lt (EReal.coe_lt_top _))
  rw [drop_eq] at hi
  have h0 : i 0 = r := congrFun hi 0
  have hp : i = ix2 r (i 1) := by rw [← h0]; exact eq_ix2 i
  refine ⟨i 1, (congrFun (pick_eq D) _).trans (e.trans rfl), fun k => ?_⟩
  have h := hle (ix2 r k) (drop_eq _)
  have h1 : D i = (δ (i 1) : EReal) := (congrArg D hp).trans (hD (i 1))
  rw [h1, hD] at h
  exact EReal.coe_le_coe_iff.1 h

end Cert.Vq.Ref

end
-- ==== Proof.Vq.Finite.lean ====
/- The precondition's arrays hold finite entries only. -/
module

public import proofs.«01_k».proof.Pre_all_finite
public import proofs.«01_k».proof.Proof.Vq.Min

@[expose] public section

set_option maxRecDepth 16384

noncomputable section

namespace Cert.Vq

open Idealize.ShloMosaic
open Cert.Pre_all_finite

/-- The relations of shapes the precondition states. -/
theorem facts_pre : Cert.Pre_all_finite.Facts := ⟨by decide, by decide⟩

/-- An extended real whose absolute value is below infinity is a real. -/
theorem real_of_abs (a : EReal) (h : max a (-a) < ⊤) : ∃ x : ℝ, a = x := by
  refine ⟨a.toReal, (EReal.coe_toReal ?_ ?_).symm⟩
  · rintro rfl
    simp at h
  · rintro rfl
    simp at h

/-- A test of one entry, read back. -/
theorem real_of_test (a : EReal) (h : FloatOps.cmpf (F := Ideal) (φ := .f32) .olt (FloatOps.hostAbsf (F := Ideal) (φ := .f32) a) (Ideal.ofBits .f32 0x7F800000#32) = 1#1) :
    ∃ x : ℝ, a = x := by
  rw [inf_f32] at h
  refine real_of_abs a (of_not_not fun hn => ?_)
  have e : BitVec.ofBool (decide (max a (-a) < ⊤)) = 1#1 := h
  rw [decide_eq_false hn] at e
  exact absurd e (by decide)

/-- Both bits of an all-ones conjunction are ones. -/
theorem and_ones (a b : BitVec 1) (h : IntOp.andi a b = 1#1) : a = 1#1 ∧ b = 1#1 := by
  revert h
  revert a b
  decide

variable [Cert.Pre_all_finite.Facts]

/-- Where the precondition holds every entry of both arrays is a real. -/
theorem finite_of (X : FVec Ideal S8x64x32x32 .f32) (C : FVec Ideal S8192x64 .f32) (h : fn (F := Ideal) X C = fun _ => 1#1) :
    (∀ i : S8x64x32x32.Idx, ∃ x : ℝ, (X i : EReal) = x) ∧ ∀ i : S8192x64.Idx, ∃ x : ℝ, (C i : EReal) = x := by
  have key : ∀ i : S8192x64.Idx, (∃ x : ℝ, (shapeCast S8192x64 X Facts.shapeCasts_S8x64x32x32_S8192x64 i : EReal) = x) ∧ ∃ x : ℝ, (C i : EReal) = x := by
    intro i
    obtain ⟨h1, h2⟩ := and_ones _ _ (congrFun h i)
    exact ⟨real_of_test _ h1, real_of_test _ h2⟩
  refine ⟨fun i => ?_, fun i => (key i).2⟩
  obtain ⟨x, hx⟩ := (key ((Shape.reshapeEquiv Facts.shapeCasts_S8x64x32x32_S8192x64).symm i)).1
  refine ⟨x, ?_⟩
  rw [← hx]
  unfold shapeCast
  rw [Equiv.apply_symm_apply]

end Cert.Vq

end
-- ==== Proof.Vq.Frames.lean ====
/- The frames: each program runs to its end from any memory, leaving its arguments as they were and every semaphore
   counter at zero. -/
module

public import proofs.«01_k».proof.Defs
public import proofs.«01_k».proof.Proof.Gen.Kernel
public import proofs.«01_k».proof.Proof.Vq.Run
public import proofs.«01_k».proof.Proof.Vq.Ref

@[expose] public section

noncomputable section

namespace Cert.Vq

open Idealize.ShloMosaic Idealize.ShloMosaic.TcCoe
open Idealize.SL Idealize.SL.Sem

/-- The run at any float instance, read at the arguments. -/
theorem run_args {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  θ_run_mono (run_main m g) fun _ h => ⟨fun c => ⟨(h.1 c _ rfl).trans (Cert.KernelIdeal.Gen.V5_main_arg0 m (outs m) c),
    (h.1 c _ rfl).trans (Cert.KernelIdeal.Gen.V5_main_arg1 m (outs m) c)⟩, h.2⟩

/-- The idealized kernel's frame. -/
theorem frame_KernelIdeal : Cert.quiescent_KernelIdeal := fun m g _ => run_args m g

/-- The two programs' body tables are one. -/
theorem defs₀_eq : Cert.Kernel.defs₀ (F := Bits) = Cert.KernelIdeal.defs₀ (F := Bits) :=
  congrArg Defs.onTc (funext fun ℓ => funext fun a => match ℓ, a with
    | ⟨0, _⟩, (_, _) => rfl
    | ⟨1, _⟩, (_, _) => rfl
    | ⟨_ + 2, h⟩, _ => absurd h (Nat.not_lt.2 (Nat.le_add_left _ _)))

/-- The two programs' tables, each region's pipeline included, are one. -/
theorem defs_eq : Cert.Kernel.defs (F := Bits) = Cert.KernelIdeal.defs (F := Bits) :=
  congrArg (Pipeline.defs (Cert.KernelIdeal.pcfgs (F := Bits))) defs₀_eq

/-- The two programs' @main are one. -/
theorem main_eq : Cert.Kernel.main (F := Bits) = Cert.KernelIdeal.main (F := Bits) := rfl

/-- The kernel's frame at the machine's own floats: its text is the idealized kernel's. -/
theorem frame_Kernel : Cert.quiescent_Kernel := by
  intro m g _
  rw [main_eq, defs_eq]
  exact run_args (F := Bits) m g

/-- The reference's frame. -/
theorem frame_ReferenceIdeal : Cert.quiescent_ReferenceIdeal := fun m g _ =>
  θ_run_mono (Ref.run m g) fun _ h => ⟨fun c => ⟨(h.1 c).2.2.2.2.1, (h.1 c).2.2.2.2.2⟩, h.2⟩

end Cert.Vq
end
-- ==== Proof.Vq.Value.lean ====
/- For finite inputs the kernel's results are the reference's. -/
module

public import proofs.«01_k».proof.Proof.Vq.Arrays
public import proofs.«01_k».proof.Proof.Vq.RefEntries
public import proofs.«01_k».proof.Proof.Vq.Pick
public import proofs.«01_k».proof.Proof.Vq.Finite
public import proofs.«01_k».proof.Proof.Vq.Frames
public import proofs.«01_k».proof.Defs

@[expose] public section

set_option maxRecDepth 16384

noncomputable section

namespace Cert.Vq

open Idealize.ShloMosaic Idealize.ShloMosaic.TcCoe
open Idealize.SL.Sem
open Cert.KernelIdeal Cert.KernelIdeal.Gen

/-- A squared distance read from either end. -/
theorem gap_comm (x c : Fin 64 → ℝ) : gap x c = gap c x := Finset.sum_congr rfl fun d _ => by ring

/-- Every row of finite entries has a nearest code, and the reference takes it. -/
theorem nearest (X : FVec Ideal S8x64x32x32 .f32) (C : FVec Ideal S8192x64 .f32) (x k : Fin 8192 → Fin 64 → ℝ)
    (hx : ∀ r d, Ref.flat X (ix2 r d) = (x r d : EReal)) (hk : ∀ r d, C (ix2 r d) = (k r d : EReal)) (r : Fin 8192) :
    ∃ p : Fin 8192, (∀ j, gap (x r) (k p) ≤ gap (x r) (k j))
      ∧ ∀ d, Ref.take C (Ref.wrap (Ref.pick (Ref.dist (Ref.flat X) C))) (ix2 r d) = (k p d : EReal) := by
  obtain ⟨p, hp, hle⟩ := Ref.pick_real (Ref.dist (Ref.flat X) C) r (fun j => Real.sqrt (gap (x r) (k j)))
    fun j => Ref.dist_real _ _ r j (x r) (k j) (hx r) (hk j)
  refine ⟨p, fun j => (Real.sqrt_le_sqrt_iff (Ref.gap_nonneg _ _)).1 (hle j), fun d => ?_⟩
  exact (Ref.take_at C _ r p d (Ref.wrap_at _ r p hp)).trans (hk p d)

/-- The mean over the total, written out. -/
theorem meanK_at (T : FVec Ideal S1x1 .f32) (j : S_.Idx) : (meanK T j : EReal)
    = Ideal.div ((T (ix2 0 0) : EReal) - Ideal.ofBits .f32 0x46000000#32) (Ideal.ofBits .f32 0x49000000#32) := by
  pointwise [meanK]

/-- The mean over the total, for a finite total. -/
theorem meanK_real (T : FVec Ideal S1x1 .f32) (s : ℝ) (h : (T (ix2 0 0) : EReal) = ((s + 8192 : ℝ) : EReal)) :
    meanK T = fun _ => Ideal.div (s : EReal) (Ideal.ofBits .f32 0x49000000#32) := by
  funext j
  rw [meanK_at, h, count_f32, ← EReal.coe_sub, add_sub_cancel_right]

variable (m : (ℓ : Loc nD τ sig) → Buf (Elt Ideal) ℓ)

/-- For finite inputs the kernel's mean is each of the reference's two. -/
theorem means (c : Dev nD) (hX : ∀ i, ∃ x : ℝ, (vecs m c i : EReal) = x) (hC : ∀ i, ∃ x : ℝ, (codes m c i : EReal) = x) :
    meanK (totV m c) = Ref.mse (Ref.quant (vecs m c) (codes m c)) (Ref.nhwc (vecs m c))
      ∧ meanK (totV m c) = Ref.mse (Ref.nhwc (vecs m c)) (Ref.quant (vecs m c) (codes m c)) := by
  have hx' : ∀ r d, ∃ x : ℝ, (Ref.flat (vecs m c) (ix2 r d) : EReal) = x := fun r d => hX _
  choose x hx using hx'
  have hk' : ∀ r d, ∃ x : ℝ, (codes m c (ix2 r d) : EReal) = x := fun r d => hC _
  choose k hk using hk'
  choose p hp hq using nearest (vecs m c) (codes m c) x k hx hk
  rw [meanK_real _ _ (tot_real m c x k hx hk p hp)]
  unfold Ref.quant
  rw [Ref.nhwc_eq, Ref.mse_real _ _ (fun r => k (p r)) x hq hx, Ref.mse_real _ _ x (fun r => k (p r)) hx hq]
  simp only [gap_comm, and_self]

/-- For finite inputs the kernel's weighed sum is the reference's. -/
theorem boths (c : Dev nD) (hX : ∀ i, ∃ x : ℝ, (vecs m c i : EReal) = x) (hC : ∀ i, ∃ x : ℝ, (codes m c i : EReal) = x) :
    bothK (meanK (totV m c)) = Ref.both (Ref.quant (vecs m c) (codes m c)) (Ref.nhwc (vecs m c)) := by
  obtain ⟨h1, h2⟩ := means m c hX hC
  unfold bothK Ref.both
  rw [← h1, ← h2]

/-- For finite inputs the kernel and the reference end with equal results and unchanged arguments. -/
theorem algebraic_finite [Cert.Pre_all_finite.Facts] : Cert.algebraic_KernelIdeal_ReferenceIdeal_pre_all_finite := by
  intro m g m' g' hpre hargs
  refine ⟨fun c => vecs m c, fun c => bothK (meanK (totV m c)), fun c => meanK (totV m c), fun c => meanK (totV m c), ?_, ?_⟩
  · refine θ_run_mono (run_main m g) fun r h c => ?_
    have h0 := (h.1 c main_arg0 rfl).trans (V5_main_arg0 m (outs m) c)
    have h5 := (h.1 c main_v5 rfl).trans (both_eq m c)
    have h3 := (h.1 c main_v3 rfl).trans (mean_eq m c)
    exact ⟨h0, h5, h3, h3, h0, (h.1 c main_arg1 rfl).trans (V5_main_arg1 m (outs m) c)⟩
  · refine θ_run_mono (Ref.run m' g') fun r h c => ?_
    obtain ⟨h0, h1, h2, h3, h4, h5⟩ := h.1 c
    obtain ⟨hX, hC⟩ := finite_of (vecs m c) (codes m c) (hpre c)
    rw [(hargs c).1] at h0
    rw [(hargs c).1, (hargs c).2] at h1 h2 h3
    exact ⟨h0.trans (Ref.nchw_nhwc _), h1.trans (boths m c hX hC).symm, h2.trans (means m c hX hC).1.symm, h3.trans (means m c hX hC).2.symm, h4, h5⟩

/-- The idealized kernel's frame where the precondition holds. -/
theorem frame_KernelIdeal_finite [Cert.Pre_all_finite.Facts] : Cert.quiescent_KernelIdeal_pre_all_finite := fun m g _ => frame_KernelIdeal m g trivial

/-- The reference's frame where the precondition holds. -/
theorem frame_ReferenceIdeal_finite [Cert.Pre_all_finite.Facts] : Cert.quiescent_ReferenceIdeal_pre_all_finite := fun m g _ => frame_ReferenceIdeal m g trivial

end Cert.Vq

end
-- ==== Proof.lean ====
/- The proof of the certificate's claim: each program's facts, then its conjuncts in order. -/
module

public import proofs.«01_k».proof.Defs
public import proofs.«01_k».proof.Proof.Vq.Value

@[expose] public section

noncomputable section

namespace Cert.Proof

open Idealize.ShloMosaic Idealize.SL.Sem

/-- The certificate's claim: the kernel's frame, its idealization's and the reference's, with the precondition and without,
    the idealization's ledger, and the equality of the results for finite inputs. -/
theorem claim : Cert.Claim :=
  have := Cert.Vq.facts_pre
  ⟨Cert.Kernel.Gen.facts, Cert.KernelIdeal.Gen.facts, Cert.ReferenceIdeal.Gen.facts, Cert.Vq.facts_pre,
  Cert.Vq.frame_Kernel, Cert.Vq.frame_KernelIdeal, Cert.Vq.frame_KernelIdeal_finite,
  Cert.Vq.frame_ReferenceIdeal, Cert.Vq.frame_ReferenceIdeal_finite, trivial,
  Cert.Vq.algebraic_finite⟩

end Cert.Proof

end
